-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_clear_of_edges [hPre_finite_clear_of_edges : Cert.Pre_finite_clear_of_edges.Facts] (m : (ℓ : Loc Cert.KernelIdeal.nD Cert.KernelIdeal.τ Cert.KernelIdeal.sig) → Buf (Elt Ideal) ℓ) : Prop :=
  ∀ c : Dev Cert.KernelIdeal.nD,
    (Cert.Pre_finite_clear_of_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_clear_of_edges [hPre_finite_clear_of_edges : Cert.Pre_finite_clear_of_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_clear_of_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceBf16EdgesIdeal (m : (ℓ : Loc Cert.ReferenceBf16EdgesIdeal.nD Cert.ReferenceBf16EdgesIdeal.τ Cert.ReferenceBf16EdgesIdeal.sig) → Buf (Elt Ideal) ℓ) : Prop :=
  True

def Pre_ReferenceBf16EdgesIdeal_finite [hPre_finite : Cert.Pre_finite.Facts] (m : (ℓ : Loc Cert.ReferenceBf16EdgesIdeal.nD Cert.ReferenceBf16EdgesIdeal.τ Cert.ReferenceBf16EdgesIdeal.sig) → Buf (Elt Ideal) ℓ) : Prop :=
  ∀ c : Dev Cert.ReferenceBf16EdgesIdeal.nD,
    (Cert.Pre_finite.fn (F := Ideal) (m ((c.tc : Thread Cert.ReferenceBf16EdgesIdeal.nD Cert.ReferenceBf16EdgesIdeal.τ).loc Cert.ReferenceBf16EdgesIdeal.main_arg0)) (m ((c.tc : Thread Cert.ReferenceBf16EdgesIdeal.nD Cert.ReferenceBf16EdgesIdeal.τ).loc Cert.ReferenceBf16EdgesIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_clear_of_edges [hKernelIdeal : Cert.KernelIdeal.Facts] [hPre_finite_clear_of_edges : Cert.Pre_finite_clear_of_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_clear_of_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_clear_of_edges [hReferenceIdeal : Cert.ReferenceIdeal.Facts] [hPre_finite_clear_of_edges : Cert.Pre_finite_clear_of_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_clear_of_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceBf16EdgesIdeal [hReferenceBf16EdgesIdeal : Cert.ReferenceBf16EdgesIdeal.Facts] : Prop :=
  ∀ (m : (ℓ : Loc Cert.ReferenceBf16EdgesIdeal.nD Cert.ReferenceBf16EdgesIdeal.τ Cert.ReferenceBf16EdgesIdeal.sig) → Buf (Elt Ideal) ℓ) (g : Dev Cert.ReferenceBf16EdgesIdeal.nD → PrngReg), Pre_ReferenceBf16EdgesIdeal m →
    θ_run (Cert.ReferenceBf16EdgesIdeal.defs (F := Ideal)) (onTc (τ := Cert.ReferenceBf16EdgesIdeal.τ) (Cert.ReferenceBf16EdgesIdeal.main (F := Ideal))) ⟨m, fun _ => 0, g⟩ (fun r => (∀ c : Dev Cert.ReferenceBf16EdgesIdeal.nD,
      r.2.mem ((c.tc : Thread Cert.ReferenceBf16EdgesIdeal.nD Cert.ReferenceBf16EdgesIdeal.τ).loc Cert.ReferenceBf16EdgesIdeal.main_arg0) = m ((c.tc : Thread Cert.ReferenceBf16EdgesIdeal.nD Cert.ReferenceBf16EdgesIdeal.τ).loc Cert.ReferenceBf16EdgesIdeal.main_arg0)
      ∧ r.2.mem ((c.tc : Thread Cert.ReferenceBf16EdgesIdeal.nD Cert.ReferenceBf16EdgesIdeal.τ).loc Cert.ReferenceBf16EdgesIdeal.main_arg1) = m ((c.tc : Thread Cert.ReferenceBf16EdgesIdeal.nD Cert.ReferenceBf16EdgesIdeal.τ).loc Cert.ReferenceBf16EdgesIdeal.main_arg1))
      ∧ r.2.sem = fun _ => 0)

def quiescent_ReferenceBf16EdgesIdeal_pre_finite [hReferenceBf16EdgesIdeal : Cert.ReferenceBf16EdgesIdeal.Facts] [hPre_finite : Cert.Pre_finite.Facts] : Prop :=
  ∀ (m : (ℓ : Loc Cert.ReferenceBf16EdgesIdeal.nD Cert.ReferenceBf16EdgesIdeal.τ Cert.ReferenceBf16EdgesIdeal.sig) → Buf (Elt Ideal) ℓ) (g : Dev Cert.ReferenceBf16EdgesIdeal.nD → PrngReg), Pre_ReferenceBf16EdgesIdeal_finite m →
    θ_run (Cert.ReferenceBf16EdgesIdeal.defs (F := Ideal)) (onTc (τ := Cert.ReferenceBf16EdgesIdeal.τ) (Cert.ReferenceBf16EdgesIdeal.main (F := Ideal))) ⟨m, fun _ => 0, g⟩ (fun r => (∀ c : Dev Cert.ReferenceBf16EdgesIdeal.nD,
      r.2.mem ((c.tc : Thread Cert.ReferenceBf16EdgesIdeal.nD Cert.ReferenceBf16EdgesIdeal.τ).loc Cert.ReferenceBf16EdgesIdeal.main_arg0) = m ((c.tc : Thread Cert.ReferenceBf16EdgesIdeal.nD Cert.ReferenceBf16EdgesIdeal.τ).loc Cert.ReferenceBf16EdgesIdeal.main_arg0)
      ∧ r.2.mem ((c.tc : Thread Cert.ReferenceBf16EdgesIdeal.nD Cert.ReferenceBf16EdgesIdeal.τ).loc Cert.ReferenceBf16EdgesIdeal.main_arg1) = m ((c.tc : Thread Cert.ReferenceBf16EdgesIdeal.nD Cert.ReferenceBf16EdgesIdeal.τ).loc Cert.ReferenceBf16EdgesIdeal.main_arg1))
      ∧ r.2.sem = fun _ => 0)

def preserves_Kernel_KernelIdeal : Prop :=
  True

def algebraic_KernelIdeal_ReferenceBf16EdgesIdeal_pre_finite [hKernelIdeal : Cert.KernelIdeal.Facts] [hReferenceBf16EdgesIdeal : Cert.ReferenceBf16EdgesIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceBf16EdgesIdeal.nD Cert.ReferenceBf16EdgesIdeal.τ Cert.ReferenceBf16EdgesIdeal.sig) → Buf (Elt Ideal) ℓ) (g' : Dev Cert.ReferenceBf16EdgesIdeal.nD → PrngReg), Pre_KernelIdeal_finite m →
    (∀ c : Dev Cert.KernelIdeal.nD,
      m' ((c.tc : Thread Cert.ReferenceBf16EdgesIdeal.nD Cert.ReferenceBf16EdgesIdeal.τ).loc Cert.ReferenceBf16EdgesIdeal.main_arg0) = m ((c.tc : Thread Cert.KernelIdeal.nD Cert.KernelIdeal.τ).loc Cert.KernelIdeal.main_arg0)
      ∧ m' ((c.tc : Thread Cert.ReferenceBf16EdgesIdeal.nD Cert.ReferenceBf16EdgesIdeal.τ).loc Cert.ReferenceBf16EdgesIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceBf16EdgesIdeal.defs (F := Ideal)) (onTc (τ := Cert.ReferenceBf16EdgesIdeal.τ) (Cert.ReferenceBf16EdgesIdeal.main (F := Ideal))) ⟨m', fun _ => 0, g'⟩ (fun r => ∀ c : Dev Cert.ReferenceBf16EdgesIdeal.nD,
          r.2.mem ((c.tc : Thread Cert.ReferenceBf16EdgesIdeal.nD Cert.ReferenceBf16EdgesIdeal.τ).loc Cert.ReferenceBf16EdgesIdeal.main_v174) = v0 c
          ∧ r.2.mem ((c.tc : Thread Cert.ReferenceBf16EdgesIdeal.nD Cert.ReferenceBf16EdgesIdeal.τ).loc Cert.ReferenceBf16EdgesIdeal.main_arg0) = m' ((c.tc : Thread Cert.ReferenceBf16EdgesIdeal.nD Cert.ReferenceBf16EdgesIdeal.τ).loc Cert.ReferenceBf16EdgesIdeal.main_arg0)
          ∧ r.2.mem ((c.tc : Thread Cert.ReferenceBf16EdgesIdeal.nD Cert.ReferenceBf16EdgesIdeal.τ).loc Cert.ReferenceBf16EdgesIdeal.main_arg1) = m' ((c.tc : Thread Cert.ReferenceBf16EdgesIdeal.nD Cert.ReferenceBf16EdgesIdeal.τ).loc Cert.ReferenceBf16EdgesIdeal.main_arg1))

def algebraic_KernelIdeal_ReferenceIdeal_pre_finite_clear_of_edges [hKernelIdeal : Cert.KernelIdeal.Facts] [hReferenceIdeal : Cert.ReferenceIdeal.Facts] [hPre_finite_clear_of_edges : Cert.Pre_finite_clear_of_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_clear_of_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReferenceBf16EdgesIdeal : Cert.ReferenceBf16EdgesIdeal.Facts) (hPre_finite : Cert.Pre_finite.Facts) (hPre_finite_clear_of_edges : Cert.Pre_finite_clear_of_edges.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_finite_clear_of_edges (hKernelIdeal := hKernelIdeal) (hPre_finite_clear_of_edges := hPre_finite_clear_of_edges)
    ∧ quiescent_ReferenceIdeal (hReferenceIdeal := hReferenceIdeal)
    ∧ quiescent_ReferenceIdeal_pre_finite_clear_of_edges (hReferenceIdeal := hReferenceIdeal) (hPre_finite_clear_of_edges := hPre_finite_clear_of_edges)
    ∧ quiescent_ReferenceBf16EdgesIdeal (hReferenceBf16EdgesIdeal := hReferenceBf16EdgesIdeal)
    ∧ quiescent_ReferenceBf16EdgesIdeal_pre_finite (hReferenceBf16EdgesIdeal := hReferenceBf16EdgesIdeal) (hPre_finite := hPre_finite)
    ∧ preserves_Kernel_KernelIdeal
    ∧ algebraic_KernelIdeal_ReferenceBf16EdgesIdeal_pre_finite (hKernelIdeal := hKernelIdeal) (hReferenceBf16EdgesIdeal := hReferenceBf16EdgesIdeal) (hPre_finite := hPre_finite)
    ∧ algebraic_KernelIdeal_ReferenceIdeal_pre_finite_clear_of_edges (hKernelIdeal := hKernelIdeal) (hReferenceIdeal := hReferenceIdeal) (hPre_finite_clear_of_edges := hPre_finite_clear_of_edges)
-- ==== Pre_finite.lean ====
abbrev S65536x128 : Shape := ⟨2, ![65536, 128]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel

variable [Facts]

def fn {F : FTy → Type} [FloatOps F] (main_arg0 : FVec F S65536x128 .f32) (main_arg1 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  main_v3
-- ==== Pre_finite_clear_of_edges.lean ====
abbrev S65536x128 : Shape := ⟨2, ![65536, 128]⟩
abbrev S65536 : Shape := ⟨1, ![65536]⟩
abbrev S_ : Shape := ⟨0, ![]⟩
abbrev S65536x1 : Shape := ⟨2, ![65536, 1]⟩

class Facts : Prop where
  reducesTo_S65536x128_S65536_d1 : S65536x128.ReducesTo [1] S65536
  h_S_ : 0 < S_.numel
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S_S65536x128 : S_.BroadcastsInDim S65536x128 (![] : Fin 0 → Fin S65536x128.rank)
  reducesTo_S65536x128_S_d0_1 : S65536x128.ReducesTo [0, 1] S_

variable [Facts]

def fn_part3 {F : FTy → Type} [FloatOps F] (main_v8 : FVec F S65536x128 .f32) (main_v53 : IVec S65536x128 1) (main_cst_16 : FVec F S_ .f32) : IVec S_ 1 :=
  let main_v54 : FVec F S65536x128 .f32 := broadcastInDim S65536x128 ![] bcast_S_S65536x128 main_cst_16
  let main_v55 : IVec S65536x128 1 := cmpf .ole main_v8 main_v54
  let main_cst_17 : FVec F S_ .f32 := constant S_ .f32 0x3F4CCCCD#32
  let main_v56 : FVec F S65536x128 .f32 := broadcastInDim S65536x128 ![] bcast_S_S65536x128 main_cst_17
  let main_v57 : IVec S65536x128 1 := cmpf .ogt main_v8 main_v56
  let main_v58 : IVec S65536x128 1 := ori main_v55 main_v57
  let main_v59 : IVec S65536x128 1 := andi main_v53 main_v58
  let main_cst_18 : FVec F S_ .f32 := constant S_ .f32 0x3F660000#32
  let main_v60 : FVec F S65536x128 .f32 := broadcastInDim S65536x128 ![] bcast_S_S65536x128 main_cst_18
  let main_v61 : IVec S65536x128 1 := cmpf .ole main_v8 main_v60
  let main_cst_19 : FVec F S_ .f32 := constant S_ .f32 0x3F666666#32
  let main_v62 : FVec F S65536x128 .f32 := broadcastInDim S65536x128 ![] bcast_S_S65536x128 main_cst_19
  let main_v63 : IVec S65536x128 1 := cmpf .ogt main_v8 main_v62
  let main_v64 : IVec S65536x128 1 := ori main_v61 main_v63
  let main_v65 : IVec S65536x128 1 := andi main_v59 main_v64
  let main_c : IVec S_ 1 := constantI S_ 1 1#1
  let main_v66 : IVec S_ 1 := (fun x v => Host.reduce IntOp.andi x v reducesTo_S65536x128_S_d0_1 h_S_) main_v65 main_c
  main_v66

def fn_part2 {F : FTy → Type} [FloatOps F] (main_v8 : FVec F S65536x128 .f32) (main_v35 : IVec S65536x128 1) (main_cst_10 : FVec F S_ .f32) : IVec S_ 1 :=
  let main_v36 : FVec F S65536x128 .f32 := broadcastInDim S65536x128 ![] bcast_S_S65536x128 main_cst_10
  let main_v37 : IVec S65536x128 1 := cmpf .ole main_v8 main_v36
  let main_cst_11 : FVec F S_ .f32 := constant S_ .f32 0x3F000000#32
  let main_v38 : FVec F S65536x128 .f32 := broadcastInDim S65536x128 ![] bcast_S_S65536x128 main_cst_11
  let main_v39 : IVec S65536x128 1 := cmpf .ogt main_v8 main_v38
  let main_v40 : IVec S65536x128 1 := ori main_v37 main_v39
  let main_v41 : IVec S65536x128 1 := andi main_v35 main_v40
  let main_cst_12 : FVec F S_ .f32 := constant S_ .f32 0x3F190000#32
  let main_v42 : FVec F S65536x128 .f32 := broadcastInDim S65536x128 ![] bcast_S_S65536x128 main_cst_12
  let main_v43 : IVec S65536x128 1 := cmpf .ole main_v8 main_v42
  let main_cst_13 : FVec F S_ .f32 := constant S_ .f32 0x3F19999A#32
  let main_v44 : FVec F S65536x128 .f32 := broadcastInDim S65536x128 ![] bcast_S_S65536x128 main_cst_13
  let main_v45 : IVec S65536x128 1 := cmpf .ogt main_v8 main_v44
  let main_v46 : IVec S65536x128 1 := ori main_v43 main_v45
  let main_v47 : IVec S65536x128 1 := andi main_v41 main_v46
  let main_cst_14 : FVec F S_ .f32 := constant S_ .f32 0x3F330000#32
  let main_v48 : FVec F S65536x128 .f32 := broadcastInDim S65536x128 ![] bcast_S_S65536x128 main_cst_14
  let main_v49 : IVec S65536x128 1 := cmpf .ole main_v8 main_v48
  let main_cst_15 : FVec F S_ .f32 := constant S_ .f32 0x3F333333#32
  let main_v50 : FVec F S65536x128 .f32 := broadcastInDim S65536x128 ![] bcast_S_S65536x128 main_cst_15
  let main_v51 : IVec S65536x128 1 := cmpf .ogt main_v8 main_v50
  let main_v52 : IVec S65536x128 1 := ori main_v49 main_v51
  let main_v53 : IVec S65536x128 1 := andi main_v47 main_v52
  let main_cst_16 : FVec F S_ .f32 := constant S_ .f32 0x3F4C0000#32
  fn_part3 (F := F) main_v8 main_v53 main_cst_16

def fn_part1 {F : FTy → Type} [FloatOps F] (main_v8 : FVec F S65536x128 .f32) (main_v17 : IVec S65536x128 1) (main_cst_4 : FVec F S_ .f32) : IVec S_ 1 :=
  let main_v18 : FVec F S65536x128 .f32 := broadcastInDim S65536x128 ![] bcast_S_S65536x128 main_cst_4
  let main_v19 : IVec S65536x128 1 := cmpf .ole main_v8 main_v18
  let main_cst_5 : FVec F S_ .f32 := constant S_ .f32 0x3E4CCCCD#32
  let main_v20 : FVec F S65536x128 .f32 := broadcastInDim S65536x128 ![] bcast_S_S65536x128 main_cst_5
  let main_v21 : IVec S65536x128 1 := cmpf .ogt main_v8 main_v20
  let main_v22 : IVec S65536x128 1 := ori main_v19 main_v21
  let main_v23 : IVec S65536x128 1 := andi main_v17 main_v22
  let main_cst_6 : FVec F S_ .f32 := constant S_ .f32 0x3E990000#32
  let main_v24 : FVec F S65536x128 .f32 := broadcastInDim S65536x128 ![] bcast_S_S65536x128 main_cst_6
  let main_v25 : IVec S65536x128 1 := cmpf .ole main_v8 main_v24
  let main_cst_7 : FVec F S_ .f32 := constant S_ .f32 0x3E99999A#32
  let main_v26 : FVec F S65536x128 .f32 := broadcastInDim S65536x128 ![] bcast_S_S65536x128 main_cst_7
  let main_v27 : IVec S65536x128 1 := cmpf .ogt main_v8 main_v26
  let main_v28 : IVec S65536x128 1 := ori main_v25 main_v27
  let main_v29 : IVec S65536x128 1 := andi main_v23 main_v28
  let main_cst_8 : FVec F S_ .f32 := constant S_ .f32 0x3ECC0000#32
  let main_v30 : FVec F S65536x128 .f32 := broadcastInDim S65536x128 ![] bcast_S_S65536x128 main_cst_8
  let main_v31 : IVec S65536x128 1 := cmpf .ole main_v8 main_v30
  let main_cst_9 : FVec F S_ .f32 := constant S_ .f32 0x3ECCCCCD#32
  let main_v32 : FVec F S65536x128 .f32 := broadcastInDim S65536x128 ![] bcast_S_S65536x128 main_cst_9
  let main_v33 : IVec S65536x128 1 := cmpf .ogt main_v8 main_v32
  let main_v34 : IVec S65536x128 1 := ori main_v31 main_v33
  let main_v35 : IVec S65536x128 1 := andi main_v29 main_v34
  let main_cst_10 : FVec F S_ .f32 := constant S_ .f32 0x3EFF0000#32
  fn_part2 (F := F) main_v8 main_v35 main_cst_10

def fn {F : FTy → Type} [FloatOps F] (main_arg0 : FVec F S65536x128 .f32) (main_arg1 : IVec S65536 32) : IVec S_ 1 :=
  let main_cst : FVec F S_ .f32 := constant S_ .f32 0xFF800000#32
  let main_v0 : FVec F S65536 .f32 := (fun x v => Host.reduce FloatOps.maximumf x v reducesTo_S65536x128_S65536_d1 h_S_) main_arg0 main_cst
  let main_v1 : FVec F S65536x1 .f32 := broadcastInDim S65536x1 ![0] bcast_S65536_S65536x1_0 main_v0
  let main_v2 : FVec F S65536x128 .f32 := broadcastInDim S65536x128 ![0, 1] bcast_S65536x1_S65536x128_0_1 main_v1
  let main_v3 : FVec F S65536x128 .f32 := subf main_arg0 main_v2
  let main_v4 : FVec F S65536x128 .f32 := Host.exp main_v3
  let main_cst_0 : FVec F S_ .f32 := constant S_ .f32 0x00000000#32
  let main_v5 : FVec F S65536 .f32 := (fun x v => Host.reduceAdd x v reducesTo_S65536x128_S65536_d1 h_S_) main_v4 main_cst_0
  let main_v6 : FVec F S65536x1 .f32 := broadcastInDim S65536x1 ![0] bcast_S65536_S65536x1_0 main_v5
  let main_v7 : FVec F S65536x128 .f32 := broadcastInDim S65536x128 ![0, 1] bcast_S65536x1_S65536x128_0_1 main_v6
  let main_v8 : FVec F S65536x128 .f32 := Host.divf main_v4 main_v7
  let main_v9 : FVec F S65536x128 .f32 := Host.absf main_arg0
  let main_cst_1 : FVec F S_ .f32 := constant S_ .f32 0x7F800000#32
  let main_v10 : FVec F S65536x128 .f32 := broadcastInDim S65536x128 ![] bcast_S_S65536x128 main_cst_1
  let main_v11 : IVec S65536x128 1 := cmpf .olt main_v9 main_v10
  let main_cst_2 : FVec F S_ .f32 := constant S_ .f32 0x3DCC0000#32
  let main_v12 : FVec F S65536x128 .f32 := broadcastInDim S65536x128 ![] bcast_S_S65536x128 main_cst_2
  let main_v13 : IVec S65536x128 1 := cmpf .ole main_v8 main_v12
  let main_cst_3 : FVec F S_ .f32 := constant S_ .f32 0x3DCCCCCD#32
  let main_v14 : FVec F S65536x128 .f32 := broadcastInDim S65536x128 ![] bcast_S_S65536x128 main_cst_3
  let main_v15 : IVec S65536x128 1 := cmpf .ogt main_v8 main_v14
  let main_v16 : IVec S65536x128 1 := ori main_v13 main_v15
  let main_v17 : IVec S65536x128 1 := andi main_v11 main_v16
  let main_cst_4 : FVec F S_ .f32 := constant S_ .f32 0x3E4C0000#32
  fn_part1 (F := F) main_v8 main_v17 main_cst_4
-- ==== Kernel.lean ====
abbrev S65536x128 : Shape := ⟨2, ![65536, 128]⟩
abbrev S65536 : Shape := ⟨1, ![65536]⟩
abbrev S65536x1 : Shape := ⟨2, ![65536, 1]⟩
abbrev S1x1 : Shape := ⟨2, ![1, 1]⟩
abbrev S8192x128 : Shape := ⟨2, ![8192, 128]⟩
abbrev S8192x1 : Shape := ⟨2, ![8192, 1]⟩
abbrev S80x128 : Shape := ⟨2, ![80, 128]⟩
abbrev S8x512 : Shape := ⟨2, ![8, 512]⟩
abbrev S512x128 : Shape := ⟨2, ![512, 128]⟩
abbrev S8x128 : Shape := ⟨2, ![8, 128]⟩
abbrev S512x1 : Shape := ⟨2, ![512, 1]⟩
abbrev S512 : Shape := ⟨1, ![512]⟩
abbrev S1x128 : Shape := ⟨2, ![1, 128]⟩
abbrev S10x128 : Shape := ⟨2, ![10, 128]⟩
abbrev S9x128 : Shape := ⟨2, ![9, 128]⟩
abbrev S1x10x128 : Shape := ⟨3, ![1, 10, 128]⟩
abbrev S1 : Shape := ⟨1, ![1]⟩
abbrev S1x1x1 : Shape := ⟨3, ![1, 1, 1]⟩

abbrev nBuf : Space → Nat
  | .hbm => 4
  | .vmem => 5
  | .smem => 1
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S65536x1, .i32⟩
  | .hbm, ⟨3, _⟩ => ⟨S1x1, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S80x128, .f32⟩
  | .local _ .smem, ⟨0, _⟩ => ⟨S1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v1250 : BitVec 1 := Scalar.cmpi .eq arg0 c7_i32
  let v1251 : BitVec 32 := Scalar.extui v1250
  let c0_i32_573 : BitVec 32 := 0#32
  let v1252 : BitVec 1 := Scalar.cmpi .ne v1251 c0_i32_573
  v1252

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S65536x128 : Shape := ⟨2, ![65536, 128]⟩
abbrev S65536 : Shape := ⟨1, ![65536]⟩
abbrev S_ : Shape := ⟨0, ![]⟩
abbrev S65536x1 : Shape := ⟨2, ![65536, 1]⟩
abbrev S128 : Shape := ⟨1, ![128]⟩
abbrev S1x128 : Shape := ⟨2, ![1, 128]⟩
abbrev S128x1 : Shape := ⟨2, ![128, 1]⟩
abbrev S128x10 : Shape := ⟨2, ![128, 10]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S65536x128, .f32⟩
  | 1 => ⟨S65536, .i32⟩
  | 2 => ⟨S_, .f32⟩
  | 3 => ⟨S65536, .f32⟩
  | 4 => ⟨S_, .f32⟩
  | 5 => ⟨S65536, .f32⟩
  | 6 => ⟨S65536, .f32⟩
  | 7 => ⟨S65536x1, .f32⟩
  | 8 => ⟨S65536x128, .f32⟩
  | 9 => ⟨S65536x128, .f32⟩
  | 10 => ⟨S65536x128, .f32⟩
  | 11 => ⟨S_, .f32⟩
  | 12 => ⟨S65536, .f32⟩
  | 13 => ⟨S65536x1, .f32⟩
  | 14 => ⟨S65536x128, .f32⟩
  | 15 => ⟨S65536x128, .f32⟩
  | 16 => ⟨S65536x1, .i32⟩
  | 17 => ⟨S128, .i32⟩
  | 18 => ⟨S1x128, .i32⟩
  | 19 => ⟨S65536x128, .i32⟩
  | 20 => ⟨S65536x128, .i32⟩
  | 21 => ⟨S65536x128, .i1⟩
  | 22 => ⟨S65536x128, .f32⟩
  | 23 => ⟨S_, .f32⟩
  | 24 => ⟨S65536x128, .f32⟩
  | 25 => ⟨S65536x128, .i1⟩
  | 26 => ⟨S_, .f32⟩
  | 27 => ⟨S65536x128, .f32⟩
  | 28 => ⟨S65536x128, .i1⟩
  | 29 => ⟨S65536x128, .i1⟩
  | 30 => ⟨S65536x128, .f32⟩
  | 31 => ⟨S_, .f32⟩
  | 32 => ⟨S128, .f32⟩
  | 33 => ⟨S65536x128, .f32⟩
  | 34 => ⟨S_, .f32⟩
  | 35 => ⟨S128, .f32⟩
  | 36 => ⟨S65536x128, .f32⟩
  | 37 => ⟨S_, .f32⟩
  | 38 => ⟨S128, .f32⟩
  | 39 => ⟨S_, .f32⟩
  | 40 => ⟨S65536x128, .f32⟩
  | 41 => ⟨S65536x128, .i1⟩
  | 42 => ⟨S_, .f32⟩
  | 43 => ⟨S65536x128, .f32⟩
  | 44 => ⟨S65536x128, .i1⟩
  | 45 => ⟨S65536x128, .i1⟩
  | 46 => ⟨S65536x128, .f32⟩
  | 47 => ⟨S_, .f32⟩
  | 48 => ⟨S128, .f32⟩
  | 49 => ⟨S65536x128, .f32⟩
  | 50 => ⟨S_, .f32⟩
  | 51 => ⟨S128, .f32⟩
  | 52 => ⟨S65536x128, .f32⟩
  | 53 => ⟨S_, .f32⟩
  | 54 => ⟨S128, .f32⟩
  | 55 => ⟨S_, .f32⟩
  | 56 => ⟨S65536x128, .f32⟩
  | 57 => ⟨S65536x128, .i1⟩
  | 58 => ⟨S_, .f32⟩
  | 59 => ⟨S65536x128, .f32⟩
  | 60 => ⟨S65536x128, .i1⟩
  | 61 => ⟨S65536x128, .i1⟩
  | 62 => ⟨S65536x128, .f32⟩
  | 63 => ⟨S_, .f32⟩
  | 64 => ⟨S128, .f32⟩
  | 65 => ⟨S65536x128, .f32⟩
  | 66 => ⟨S_, .f32⟩
  | 67 => ⟨S128, .f32⟩
  | 68 => ⟨S65536x128, .f32⟩
  | 69 => ⟨S_, .f32⟩
  | 70 => ⟨S128, .f32⟩
  | 71 => ⟨S_, .f32⟩
  | 72 => ⟨S65536x128, .f32⟩
  | 73 => ⟨S65536x128, .i1⟩
  | 74 => ⟨S_, .f32⟩
  | 75 => ⟨S65536x128, .f32⟩
  | 76 => ⟨S65536x128, .i1⟩
  | 77 => ⟨S65536x128, .i1⟩
  | 78 => ⟨S65536x128, .f32⟩
  | 79 => ⟨S_, .f32⟩
  | 80 => ⟨S128, .f32⟩
  | 81 => ⟨S65536x128, .f32⟩
  | 82 => ⟨S_, .f32⟩
  | 83 => ⟨S128, .f32⟩
  | 84 => ⟨S65536x128, .f32⟩
  | 85 => ⟨S_, .f32⟩
  | 86 => ⟨S128, .f32⟩
  | 87 => ⟨S_, .f32⟩
  | 88 => ⟨S65536x128, .f32⟩
  | 89 => ⟨S65536x128, .i1⟩
  | 90 => ⟨S_, .f32⟩
  | 91 => ⟨S65536x128, .f32⟩
  | 92 => ⟨S65536x128, .i1⟩
  | 93 => ⟨S65536x128, .i1⟩
  | 94 => ⟨S65536x128, .f32⟩
  | 95 => ⟨S_, .f32⟩
  | 96 => ⟨S128, .f32⟩
  | 97 => ⟨S65536x128, .f32⟩
  | 98 => ⟨S_, .f32⟩
  | 99 => ⟨S128, .f32⟩
  | 100 => ⟨S65536x128, .f32⟩
  | 101 => ⟨S_, .f32⟩
  | 102 => ⟨S128, .f32⟩
  | 103 => ⟨S_, .f32⟩
  | 104 => ⟨S65536x128, .f32⟩
  | 105 => ⟨S65536x128, .i1⟩
  | 106 => ⟨S_, .f32⟩
  | 107 => ⟨S65536x128, .f32⟩
  | 108 => ⟨S65536x128, .i1⟩
  | 109 => ⟨S65536x128, .i1⟩
  | 110 => ⟨S65536x128, .f32⟩
  | 111 => ⟨S_, .f32⟩
  | 112 => ⟨S128, .f32⟩
  | 113 => ⟨S65536x128, .f32⟩
  | 114 => ⟨S_, .f32⟩
  | 115 => ⟨S128, .f32⟩
  | 116 => ⟨S65536x128, .f32⟩
  | 117 => ⟨S_, .f32⟩
  | 118 => ⟨S128, .f32⟩
  | 119 => ⟨S_, .f32⟩
  | 120 => ⟨S65536x128, .f32⟩
  | 121 => ⟨S65536x128, .i1⟩
  | 122 => ⟨S_, .f32⟩
  | 123 => ⟨S65536x128, .f32⟩
  | 124 => ⟨S65536x128, .i1⟩
  | 125 => ⟨S65536x128, .i1⟩
  | 126 => ⟨S65536x128, .f32⟩
  | 127 => ⟨S_, .f32⟩
  | _ => ⟨S65536x128, .f32⟩

abbrev hbmTy0_1 (i : Nat) : BufTy := match i % 128 with
  | 0 => ⟨S128, .f32⟩
  | 1 => ⟨S65536x128, .f32⟩
  | 2 => ⟨S_, .f32⟩
  | 3 => ⟨S128, .f32⟩
  | 4 => ⟨S65536x128, .f32⟩
  | 5 => ⟨S_, .f32⟩
  | 6 => ⟨S128, .f32⟩
  | 7 => ⟨S_, .f32⟩
  | 8 => ⟨S65536x128, .f32⟩
  | 9 => ⟨S65536x128, .i1⟩
  | 10 => ⟨S_, .f32⟩
  | 11 => ⟨S65536x128, .f32⟩
  | 12 => ⟨S65536x128, .i1⟩
  | 13 => ⟨S65536x128, .i1⟩
  | 14 => ⟨S65536x128, .f32⟩
  | 15 => ⟨S_, .f32⟩
  | 16 => ⟨S128, .f32⟩
  | 17 => ⟨S65536x128, .f32⟩
  | 18 => ⟨S_, .f32⟩
  | 19 => ⟨S128, .f32⟩
  | 20 => ⟨S65536x128, .f32⟩
  | 21 => ⟨S_, .f32⟩
  | 22 => ⟨S128, .f32⟩
  | 23 => ⟨S_, .f32⟩
  | 24 => ⟨S65536x128, .f32⟩
  | 25 => ⟨S65536x128, .i1⟩
  | 26 => ⟨S_, .f32⟩
  | 27 => ⟨S65536x128, .f32⟩
  | 28 => ⟨S65536x128, .i1⟩
  | 29 => ⟨S65536x128, .i1⟩
  | 30 => ⟨S65536x128, .f32⟩
  | 31 => ⟨S_, .f32⟩
  | 32 => ⟨S128, .f32⟩
  | 33 => ⟨S65536x128, .f32⟩
  | 34 => ⟨S_, .f32⟩
  | 35 => ⟨S128, .f32⟩
  | 36 => ⟨S65536x128, .f32⟩
  | 37 => ⟨S_, .f32⟩
  | 38 => ⟨S128, .f32⟩
  | 39 => ⟨S_, .f32⟩
  | 40 => ⟨S65536x128, .f32⟩
  | 41 => ⟨S65536x128, .i1⟩
  | 42 => ⟨S_, .f32⟩
  | 43 => ⟨S65536x128, .f32⟩
  | 44 => ⟨S65536x128, .i1⟩
  | 45 => ⟨S65536x128, .i1⟩
  | 46 => ⟨S65536x128, .f32⟩
  | 47 => ⟨S_, .f32⟩
  | 48 => ⟨S128, .f32⟩
  | 49 => ⟨S65536x128, .f32⟩
  | 50 => ⟨S_, .f32⟩
  | 51 => ⟨S128, .f32⟩
  | 52 => ⟨S65536x128, .f32⟩
  | 53 => ⟨S_, .f32⟩
  | 54 => ⟨S128, .f32⟩
  | 55 => ⟨S128x1, .f32⟩
  | 56 => ⟨S128x1, .f32⟩
  | 57 => ⟨S128x1, .f32⟩
  | 58 => ⟨S128x1, .f32⟩
  | 59 => ⟨S128x1, .f32⟩
  | 60 => ⟨S128x1, .f32⟩
  | 61 => ⟨S128x1, .f32⟩
  | 62 => ⟨S128x1, .f32⟩
  | 63 => ⟨S128x1, .f32⟩
  | 64 => ⟨S128x1, .f32⟩
  | 65 => ⟨S128x10, .f32⟩
  | 66 => ⟨S128x1, .f32⟩
  | 67 => ⟨S128x1, .f32⟩
  | 68 => ⟨S128x1, .f32⟩
  | 69 => ⟨S128x1, .f32⟩
  | 70 => ⟨S128x1, .f32⟩
  | 71 => ⟨S128x1, .f32⟩
  | 72 => ⟨S128x1, .f32⟩
  | 73 => ⟨S128x1, .f32⟩
  | 74 => ⟨S128x1, .f32⟩
  | 75 => ⟨S128x1, .f32⟩
  | 76 => ⟨S128x10, .f32⟩
  | 77 => ⟨S128x1, .f32⟩
  | 78 => ⟨S128x1, .f32⟩
  | 79 => ⟨S128x1, .f32⟩
  | 80 => ⟨S128x1, .f32⟩
  | 81 => ⟨S128x1, .f32⟩
  | 82 => ⟨S128x1, .f32⟩
  | 83 => ⟨S128x1, .f32⟩
  | 84 => ⟨S128x1, .f32⟩
  | 85 => ⟨S128x1, .f32⟩
  | 86 => ⟨S128x1, .f32⟩
  | 87 => ⟨S128x10, .f32⟩
  | 88 => ⟨S_, .f32⟩
  | 89 => ⟨S128x10, .f32⟩
  | 90 => ⟨S128x10, .f32⟩
  | 91 => ⟨S128x10, .f32⟩
  | 92 => ⟨S_, .f32⟩
  | 93 => ⟨S128x10, .f32⟩
  | 94 => ⟨S128x10, .f32⟩
  | 95 => ⟨S128x10, .f32⟩
  | 96 => ⟨S128x10, .f32⟩
  | 97 => ⟨S128x10, .f32⟩
  | 98 => ⟨S128x10, .f32⟩
  | 99 => ⟨S_, .f32⟩
  | 100 => ⟨S_, .f32⟩
  | 101 => ⟨S128x10, .f32⟩
  | 102 => ⟨S128x10, .f32⟩
  | 103 => ⟨S_, .f32⟩
  | 104 => ⟨S_, .f32⟩
  | 105 => ⟨S1x1, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_cst_17 : Ref sig .tc := ⟨.hbm, 71, rfl⟩
abbrev main_v51 : Ref sig .tc := ⟨.hbm, 72, rfl⟩
abbrev main_v52 : Ref sig .tc := ⟨.hbm, 73, rfl⟩
abbrev main_cst_18 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_cst_20 : Ref sig .tc := ⟨.hbm, 82, rfl⟩
abbrev main_v59 : Ref sig .tc := ⟨.hbm, 83, rfl⟩
abbrev main_v60 : Ref sig .tc := ⟨.hbm, 84, rfl⟩
abbrev main_cst_21 : Ref sig .tc := ⟨.hbm, 85, rfl⟩
abbrev main_v61 : Ref sig .tc := ⟨.hbm, 86, rfl⟩
abbrev main_cst_22 : Ref sig .tc := ⟨.hbm, 87, rfl⟩
abbrev main_v62 : Ref sig .tc := ⟨.hbm, 88, rfl⟩
abbrev main_v63 : Ref sig .tc := ⟨.hbm, 89, rfl⟩
abbrev main_cst_23 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_24 : Ref sig .tc := ⟨.hbm, 95, rfl⟩
abbrev main_v68 : Ref sig .tc := ⟨.hbm, 96, rfl⟩
abbrev main_v69 : Ref sig .tc := ⟨.hbm, 97, rfl⟩
abbrev main_cst_25 : Ref sig .tc := ⟨.hbm, 98, rfl⟩
abbrev main_v70 : Ref sig .tc := ⟨.hbm, 99, rfl⟩
abbrev main_v71 : Ref sig .tc := ⟨.hbm, 100, rfl⟩
abbrev main_cst_26 : Ref sig .tc := ⟨.hbm, 101, rfl⟩
abbrev main_v72 : Ref sig .tc := ⟨.hbm, 102, rfl⟩
abbrev main_cst_27 : Ref sig .tc := ⟨.hbm, 103, rfl⟩
abbrev main_v73 : Ref sig .tc := ⟨.hbm, 104, rfl⟩
abbrev main_v74 : Ref sig .tc := ⟨.hbm, 105, rfl⟩
abbrev main_cst_28 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_29 : Ref sig .tc := ⟨.hbm, 111, rfl⟩
abbrev main_v79 : Ref sig .tc := ⟨.hbm, 112, rfl⟩
abbrev main_v80 : Ref sig .tc := ⟨.hbm, 113, rfl⟩
abbrev main_cst_30 : Ref sig .tc := ⟨.hbm, 114, rfl⟩
abbrev main_v81 : Ref sig .tc := ⟨.hbm, 115, rfl⟩
abbrev main_v82 : Ref sig .tc := ⟨.hbm, 116, rfl⟩
abbrev main_cst_31 : Ref sig .tc := ⟨.hbm, 117, rfl⟩
abbrev main_v83 : Ref sig .tc := ⟨.hbm, 118, rfl⟩
abbrev main_cst_32 : Ref sig .tc := ⟨.hbm, 119, rfl⟩
abbrev main_v84 : Ref sig .tc := ⟨.hbm, 120, rfl⟩
abbrev main_v85 : Ref sig .tc := ⟨.hbm, 121, rfl⟩
abbrev main_cst_33 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_34 : Ref sig .tc := ⟨.hbm, 127, rfl⟩
abbrev main_v90 : Ref sig .tc := ⟨.hbm, 128, rfl⟩
abbrev main_v91 : Ref sig .tc := ⟨.hbm, 129, rfl⟩
abbrev main_cst_35 : Ref sig .tc := ⟨.hbm, 130, rfl⟩
abbrev main_v92 : Ref sig .tc := ⟨.hbm, 131, rfl⟩
abbrev main_v93 : Ref sig .tc := ⟨.hbm, 132, rfl⟩
abbrev main_cst_36 : Ref sig .tc := ⟨.hbm, 133, rfl⟩
abbrev main_v94 : Ref sig .tc := ⟨.hbm, 134, rfl⟩
abbrev main_cst_37 : Ref sig .tc := ⟨.hbm, 135, rfl⟩
abbrev main_v95 : Ref sig .tc := ⟨.hbm, 136, rfl⟩
abbrev main_v96 : Ref sig .tc := ⟨.hbm, 137, rfl⟩
abbrev main_cst_38 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_39 : Ref sig .tc := ⟨.hbm, 143, rfl⟩
abbrev main_v101 : Ref sig .tc := ⟨.hbm, 144, rfl⟩
abbrev main_v102 : Ref sig .tc := ⟨.hbm, 145, rfl⟩
abbrev main_cst_40 : Ref sig .tc := ⟨.hbm, 146, rfl⟩
abbrev main_v103 : Ref sig .tc := ⟨.hbm, 147, rfl⟩
abbrev main_v104 : Ref sig .tc := ⟨.hbm, 148, rfl⟩
abbrev main_cst_41 : Ref sig .tc := ⟨.hbm, 149, rfl⟩
abbrev main_v105 : Ref sig .tc := ⟨.hbm, 150, rfl⟩
abbrev main_cst_42 : Ref sig .tc := ⟨.hbm, 151, rfl⟩
abbrev main_v106 : Ref sig .tc := ⟨.hbm, 152, rfl⟩
abbrev main_v107 : Ref sig .tc := ⟨.hbm, 153, rfl⟩
abbrev main_cst_43 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_44 : Ref sig .tc := ⟨.hbm, 159, rfl⟩
abbrev main_v112 : Ref sig .tc := ⟨.hbm, 160, rfl⟩
abbrev main_v113 : Ref sig .tc := ⟨.hbm, 161, rfl⟩
abbrev main_cst_45 : Ref sig .tc := ⟨.hbm, 162, rfl⟩
abbrev main_v114 : Ref sig .tc := ⟨.hbm, 163, rfl⟩
abbrev main_v115 : Ref sig .tc := ⟨.hbm, 164, rfl⟩
abbrev main_cst_46 : Ref sig .tc := ⟨.hbm, 165, rfl⟩
abbrev main_v116 : Ref sig .tc := ⟨.hbm, 166, rfl⟩
abbrev main_cst_47 : Ref sig .tc := ⟨.hbm, 167, rfl⟩
abbrev main_v117 : Ref sig .tc := ⟨.hbm, 168, rfl⟩
abbrev main_v118 : Ref sig .tc := ⟨.hbm, 169, rfl⟩
abbrev main_cst_48 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_49 : Ref sig .tc := ⟨.hbm, 175, rfl⟩
abbrev main_v123 : Ref sig .tc := ⟨.hbm, 176, rfl⟩
abbrev main_v124 : Ref sig .tc := ⟨.hbm, 177, rfl⟩
abbrev main_cst_50 : Ref sig .tc := ⟨.hbm, 178, rfl⟩
abbrev main_v125 : Ref sig .tc := ⟨.hbm, 179, rfl⟩
abbrev main_v126 : Ref sig .tc := ⟨.hbm, 180, rfl⟩
abbrev main_cst_51 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_52 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_53 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_54 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_55 : Ref sig .tc := ⟨.hbm, 231, rfl⟩
abbrev main_v173 : Ref sig .tc := ⟨.hbm, 232, rfl⟩
abbrev main_v174 : Ref sig .tc := ⟨.hbm, 233, rfl⟩

abbrev nD : Nat := 1
abbrev τ : Topo := Topo.v7x

variable {F : FTy → Type} [FloatOps F]
-- ==== ReferenceBf16EdgesIdeal.lean ====
abbrev S65536x128 : Shape := ⟨2, ![65536, 128]⟩
abbrev S65536 : Shape := ⟨1, ![65536]⟩
abbrev S_ : Shape := ⟨0, ![]⟩
abbrev S65536x1 : Shape := ⟨2, ![65536, 1]⟩
abbrev S128 : Shape := ⟨1, ![128]⟩
abbrev S1x128 : Shape := ⟨2, ![1, 128]⟩
abbrev S128x1 : Shape := ⟨2, ![128, 1]⟩
abbrev S128x10 : Shape := ⟨2, ![128, 10]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S65536x128, .f32⟩
  | 1 => ⟨S65536, .i32⟩
  | 2 => ⟨S_, .f32⟩
  | 3 => ⟨S65536, .f32⟩
  | 4 => ⟨S_, .f32⟩
  | 5 => ⟨S65536, .f32⟩
  | 6 => ⟨S65536, .f32⟩
  | 7 => ⟨S65536x1, .f32⟩
  | 8 => ⟨S65536x128, .f32⟩
  | 9 => ⟨S65536x128, .f32⟩
  | 10 => ⟨S65536x128, .f32⟩
  | 11 => ⟨S_, .f32⟩
  | 12 => ⟨S65536, .f32⟩
  | 13 => ⟨S65536x1, .f32⟩
  | 14 => ⟨S65536x128, .f32⟩
  | 15 => ⟨S65536x128, .f32⟩
  | 16 => ⟨S65536x1, .i32⟩
  | 17 => ⟨S128, .i32⟩
  | 18 => ⟨S1x128, .i32⟩
  | 19 => ⟨S65536x128, .i32⟩
  | 20 => ⟨S65536x128, .i32⟩
  | 21 => ⟨S65536x128, .i1⟩
  | 22 => ⟨S65536x128, .f32⟩
  | 23 => ⟨S_, .f32⟩
  | 24 => ⟨S65536x128, .f32⟩
  | 25 => ⟨S65536x128, .i1⟩
  | 26 => ⟨S_, .f32⟩
  | 27 => ⟨S65536x128, .f32⟩
  | 28 => ⟨S65536x128, .i1⟩
  | 29 => ⟨S65536x128, .i1⟩
  | 30 => ⟨S65536x128, .f32⟩
  | 31 => ⟨S_, .f32⟩
  | 32 => ⟨S128, .f32⟩
  | 33 => ⟨S65536x128, .f32⟩
  | 34 => ⟨S_, .f32⟩
  | 35 => ⟨S128, .f32⟩
  | 36 => ⟨S65536x128, .f32⟩
  | 37 => ⟨S_, .f32⟩
  | 38 => ⟨S128, .f32⟩
  | 39 => ⟨S_, .f32⟩
  | 40 => ⟨S65536x128, .f32⟩
  | 41 => ⟨S65536x128, .i1⟩
  | 42 => ⟨S_, .f32⟩
  | 43 => ⟨S65536x128, .f32⟩
  | 44 => ⟨S65536x128, .i1⟩
  | 45 => ⟨S65536x128, .i1⟩
  | 46 => ⟨S65536x128, .f32⟩
  | 47 => ⟨S_, .f32⟩
  | 48 => ⟨S128, .f32⟩
  | 49 => ⟨S65536x128, .f32⟩
  | 50 => ⟨S_, .f32⟩
  | 51 => ⟨S128, .f32⟩
  | 52 => ⟨S65536x128, .f32⟩
  | 53 => ⟨S_, .f32⟩
  | 54 => ⟨S128, .f32⟩
  | 55 => ⟨S_, .f32⟩
  | 56 => ⟨S65536x128, .f32⟩
  | 57 => ⟨S65536x128, .i1⟩
  | 58 => ⟨S_, .f32⟩
  | 59 => ⟨S65536x128, .f32⟩
  | 60 => ⟨S65536x128, .i1⟩
  | 61 => ⟨S65536x128, .i1⟩
  | 62 => ⟨S65536x128, .f32⟩
  | 63 => ⟨S_, .f32⟩
  | 64 => ⟨S128, .f32⟩
  | 65 => ⟨S65536x128, .f32⟩
  | 66 => ⟨S_, .f32⟩
  | 67 => ⟨S128, .f32⟩
  | 68 => ⟨S65536x128, .f32⟩
  | 69 => ⟨S_, .f32⟩
  | 70 => ⟨S128, .f32⟩
  | 71 => ⟨S_, .f32⟩
  | 72 => ⟨S65536x128, .f32⟩
  | 73 => ⟨S65536x128, .i1⟩
  | 74 => ⟨S_, .f32⟩
  | 75 => ⟨S65536x128, .f32⟩
  | 76 => ⟨S65536x128, .i1⟩
  | 77 => ⟨S65536x128, .i1⟩
  | 78 => ⟨S65536x128, .f32⟩
  | 79 => ⟨S_, .f32⟩
  | 80 => ⟨S128, .f32⟩
  | 81 => ⟨S65536x128, .f32⟩
  | 82 => ⟨S_, .f32⟩
  | 83 => ⟨S128, .f32⟩
  | 84 => ⟨S65536x128, .f32⟩
  | 85 => ⟨S_, .f32⟩
  | 86 => ⟨S128, .f32⟩
  | 87 => ⟨S_, .f32⟩
  | 88 => ⟨S65536x128, .f32⟩
  | 89 => ⟨S65536x128, .i1⟩
  | 90 => ⟨S_, .f32⟩
  | 91 => ⟨S65536x128, .f32⟩
  | 92 => ⟨S65536x128, .i1⟩
  | 93 => ⟨S65536x128, .i1⟩
  | 94 => ⟨S65536x128, .f32⟩
  | 95 => ⟨S_, .f32⟩
  | 96 => ⟨S128, .f32⟩
  | 97 => ⟨S65536x128, .f32⟩
  | 98 => ⟨S_, .f32⟩
  | 99 => ⟨S128, .f32⟩
  | 100 => ⟨S65536x128, .f32⟩
  | 101 => ⟨S_, .f32⟩
  | 102 => ⟨S128, .f32⟩
  | 103 => ⟨S_, .f32⟩
  | 104 => ⟨S65536x128, .f32⟩
  | 105 => ⟨S65536x128, .i1⟩
  | 106 => ⟨S_, .f32⟩
  | 107 => ⟨S65536x128, .f32⟩
  | 108 => ⟨S65536x128, .i1⟩
  | 109 => ⟨S65536x128, .i1⟩
  | 110 => ⟨S65536x128, .f32⟩
  | 111 => ⟨S_, .f32⟩
  | 112 => ⟨S128, .f32⟩
  | 113 => ⟨S65536x128, .f32⟩
  | 114 => ⟨S_, .f32⟩
  | 115 => ⟨S128, .f32⟩
  | 116 => ⟨S65536x128, .f32⟩
  | 117 => ⟨S_, .f32⟩
  | 118 => ⟨S128, .f32⟩
  | 119 => ⟨S_, .f32⟩
  | 120 => ⟨S65536x128, .f32⟩
  | 121 => ⟨S65536x128, .i1⟩
  | 122 => ⟨S_, .f32⟩
  | 123 => ⟨S65536x128, .f32⟩
  | 124 => ⟨S65536x128, .i1⟩
  | 125 => ⟨S65536x128, .i1⟩
  | 126 => ⟨S65536x128, .f32⟩
  | 127 => ⟨S_, .f32⟩
  | _ => ⟨S65536x128, .f32⟩

abbrev hbmTy0_1 (i : Nat) : BufTy := match i % 128 with
  | 0 => ⟨S128, .f32⟩
  | 1 => ⟨S65536x128, .f32⟩
  | 2 => ⟨S_, .f32⟩
  | 3 => ⟨S128, .f32⟩
  | 4 => ⟨S65536x128, .f32⟩
  | 5 => ⟨S_, .f32⟩
  | 6 => ⟨S128, .f32⟩
  | 7 => ⟨S_, .f32⟩
  | 8 => ⟨S65536x128, .f32⟩
  | 9 => ⟨S65536x128, .i1⟩
  | 10 => ⟨S_, .f32⟩
  | 11 => ⟨S65536x128, .f32⟩
  | 12 => ⟨S65536x128, .i1⟩
  | 13 => ⟨S65536x128, .i1⟩
  | 14 => ⟨S65536x128, .f32⟩
  | 15 => ⟨S_, .f32⟩
  | 16 => ⟨S128, .f32⟩
  | 17 => ⟨S65536x128, .f32⟩
  | 18 => ⟨S_, .f32⟩
  | 19 => ⟨S128, .f32⟩
  | 20 => ⟨S65536x128, .f32⟩
  | 21 => ⟨S_, .f32⟩
  | 22 => ⟨S128, .f32⟩
  | 23 => ⟨S_, .f32⟩
  | 24 => ⟨S65536x128, .f32⟩
  | 25 => ⟨S65536x128, .i1⟩
  | 26 => ⟨S_, .f32⟩
  | 27 => ⟨S65536x128, .f32⟩
  | 28 => ⟨S65536x128, .i1⟩
  | 29 => ⟨S65536x128, .i1⟩
  | 30 => ⟨S65536x128, .f32⟩
  | 31 => ⟨S_, .f32⟩
  | 32 => ⟨S128, .f32⟩
  | 33 => ⟨S65536x128, .f32⟩
  | 34 => ⟨S_, .f32⟩
  | 35 => ⟨S128, .f32⟩
  | 36 => ⟨S65536x128, .f32⟩
  | 37 => ⟨S_, .f32⟩
  | 38 => ⟨S128, .f32⟩
  | 39 => ⟨S_, .f32⟩
  | 40 => ⟨S65536x128, .f32⟩
  | 41 => ⟨S65536x128, .i1⟩
  | 42 => ⟨S_, .f32⟩
  | 43 => ⟨S65536x128, .f32⟩
  | 44 => ⟨S65536x128, .i1⟩
  | 45 => ⟨S65536x128, .i1⟩
  | 46 => ⟨S65536x128, .f32⟩
  | 47 => ⟨S_, .f32⟩
  | 48 => ⟨S128, .f32⟩
  | 49 => ⟨S65536x128, .f32⟩
  | 50 => ⟨S_, .f32⟩
  | 51 => ⟨S128, .f32⟩
  | 52 => ⟨S65536x128, .f32⟩
  | 53 => ⟨S_, .f32⟩
  | 54 => ⟨S128, .f32⟩
  | 55 => ⟨S128x1, .f32⟩
  | 56 => ⟨S128x1, .f32⟩
  | 57 => ⟨S128x1, .f32⟩
  | 58 => ⟨S128x1, .f32⟩
  | 59 => ⟨S128x1, .f32⟩
  | 60 => ⟨S128x1, .f32⟩
  | 61 => ⟨S128x1, .f32⟩
  | 62 => ⟨S128x1, .f32⟩
  | 63 => ⟨S128x1, .f32⟩
  | 64 => ⟨S128x1, .f32⟩
  | 65 => ⟨S128x10, .f32⟩
  | 66 => ⟨S128x1, .f32⟩
  | 67 => ⟨S128x1, .f32⟩
  | 68 => ⟨S128x1, .f32⟩
  | 69 => ⟨S128x1, .f32⟩
  | 70 => ⟨S128x1, .f32⟩
  | 71 => ⟨S128x1, .f32⟩
  | 72 => ⟨S128x1, .f32⟩
  | 73 => ⟨S128x1, .f32⟩
  | 74 => ⟨S128x1, .f32⟩
  | 75 => ⟨S128x1, .f32⟩
  | 76 => ⟨S128x10, .f32⟩
  | 77 => ⟨S128x1, .f32⟩
  | 78 => ⟨S128x1, .f32⟩
  | 79 => ⟨S128x1, .f32⟩
  | 80 => ⟨S128x1, .f32⟩
  | 81 => ⟨S128x1, .f32⟩
  | 82 => ⟨S128x1, .f32⟩
  | 83 => ⟨S128x1, .f32⟩
  | 84 => ⟨S128x1, .f32⟩
  | 85 => ⟨S128x1, .f32⟩
  | 86 => ⟨S128x1, .f32⟩
  | 87 => ⟨S128x10, .f32⟩
  | 88 => ⟨S_, .f32⟩
  | 89 => ⟨S128x10, .f32⟩
  | 90 => ⟨S128x10, .f32⟩
  | 91 => ⟨S128x10, .f32⟩
  | 92 => ⟨S_, .f32⟩
  | 93 => ⟨S128x10, .f32⟩
  | 94 => ⟨S128x10, .f32⟩
  | 95 => ⟨S128x10, .f32⟩
  | 96 => ⟨S128x10, .f32⟩
  | 97 => ⟨S128x10, .f32⟩
  | 98 => ⟨S128x10, .f32⟩
  | 99 => ⟨S_, .f32⟩
  | 100 => ⟨S_, .f32⟩
  | 101 => ⟨S128x10, .f32⟩
  | 102 => ⟨S128x10, .f32⟩
  | 103 => ⟨S_, .f32⟩
  | 104 => ⟨S_, .f32⟩
  | 105 => ⟨S1x1, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_cst_17 : Ref sig .tc := ⟨.hbm, 71, rfl⟩
abbrev main_v51 : Ref sig .tc := ⟨.hbm, 72, rfl⟩
abbrev main_v52 : Ref sig .tc := ⟨.hbm, 73, rfl⟩
abbrev main_cst_18 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_cst_20 : Ref sig .tc := ⟨.hbm, 82, rfl⟩
abbrev main_v59 : Ref sig .tc := ⟨.hbm, 83, rfl⟩
abbrev main_v60 : Ref sig .tc := ⟨.hbm, 84, rfl⟩
abbrev main_cst_21 : Ref sig .tc := ⟨.hbm, 85, rfl⟩
abbrev main_v61 : Ref sig .tc := ⟨.hbm, 86, rfl⟩
abbrev main_cst_22 : Ref sig .tc := ⟨.hbm, 87, rfl⟩
abbrev main_v62 : Ref sig .tc := ⟨.hbm, 88, rfl⟩
abbrev main_v63 : Ref sig .tc := ⟨.hbm, 89, rfl⟩
abbrev main_cst_23 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_24 : Ref sig .tc := ⟨.hbm, 95, rfl⟩
abbrev main_v68 : Ref sig .tc := ⟨.hbm, 96, rfl⟩
abbrev main_v69 : Ref sig .tc := ⟨.hbm, 97, rfl⟩
abbrev main_cst_25 : Ref sig .tc := ⟨.hbm, 98, rfl⟩
abbrev main_v70 : Ref sig .tc := ⟨.hbm, 99, rfl⟩
abbrev main_v71 : Ref sig .tc := ⟨.hbm, 100, rfl⟩
abbrev main_cst_26 : Ref sig .tc := ⟨.hbm, 101, rfl⟩
abbrev main_v72 : Ref sig .tc := ⟨.hbm, 102, rfl⟩
abbrev main_cst_27 : Ref sig .tc := ⟨.hbm, 103, rfl⟩
abbrev main_v73 : Ref sig .tc := ⟨.hbm, 104, rfl⟩
abbrev main_v74 : Ref sig .tc := ⟨.hbm, 105, rfl⟩
abbrev main_cst_28 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_29 : Ref sig .tc := ⟨.hbm, 111, rfl⟩
abbrev main_v79 : Ref sig .tc := ⟨.hbm, 112, rfl⟩
abbrev main_v80 : Ref sig .tc := ⟨.hbm, 113, rfl⟩
abbrev main_cst_30 : Ref sig .tc := ⟨.hbm, 114, rfl⟩
abbrev main_v81 : Ref sig .tc := ⟨.hbm, 115, rfl⟩
abbrev main_v82 : Ref sig .tc := ⟨.hbm, 116, rfl⟩
abbrev main_cst_31 : Ref sig .tc := ⟨.hbm, 117, rfl⟩
abbrev main_v83 : Ref sig .tc := ⟨.hbm, 118, rfl⟩
abbrev main_cst_32 : Ref sig .tc := ⟨.hbm, 119, rfl⟩
abbrev main_v84 : Ref sig .tc := ⟨.hbm, 120, rfl⟩
abbrev main_v85 : Ref sig .tc := ⟨.hbm, 121, rfl⟩
abbrev main_cst_33 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_34 : Ref sig .tc := ⟨.hbm, 127, rfl⟩
abbrev main_v90 : Ref sig .tc := ⟨.hbm, 128, rfl⟩
abbrev main_v91 : Ref sig .tc := ⟨.hbm, 129, rfl⟩
abbrev main_cst_35 : Ref sig .tc := ⟨.hbm, 130, rfl⟩
abbrev main_v92 : Ref sig .tc := ⟨.hbm, 131, rfl⟩
abbrev main_v93 : Ref sig .tc := ⟨.hbm, 132, rfl⟩
abbrev main_cst_36 : Ref sig .tc := ⟨.hbm, 133, rfl⟩
abbrev main_v94 : Ref sig .tc := ⟨.hbm, 134, rfl⟩
abbrev main_cst_37 : Ref sig .tc := ⟨.hbm, 135, rfl⟩
abbrev main_v95 : Ref sig .tc := ⟨.hbm, 136, rfl⟩
abbrev main_v96 : Ref sig .tc := ⟨.hbm, 137, rfl⟩
abbrev main_cst_38 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_39 : Ref sig .tc := ⟨.hbm, 143, rfl⟩
abbrev main_v101 : Ref sig .tc := ⟨.hbm, 144, rfl⟩
abbrev main_v102 : Ref sig .tc := ⟨.hbm, 145, rfl⟩
abbrev main_cst_40 : Ref sig .tc := ⟨.hbm, 146, rfl⟩
abbrev main_v103 : Ref sig .tc := ⟨.hbm, 147, rfl⟩
abbrev main_v104 : Ref sig .tc := ⟨.hbm, 148, rfl⟩
abbrev main_cst_41 : Ref sig .tc := ⟨.hbm, 149, rfl⟩
abbrev main_v105 : Ref sig .tc := ⟨.hbm, 150, rfl⟩
abbrev main_cst_42 : Ref sig .tc := ⟨.hbm, 151, rfl⟩
abbrev main_v106 : Ref sig .tc := ⟨.hbm, 152, rfl⟩
abbrev main_v107 : Ref sig .tc := ⟨.hbm, 153, rfl⟩
abbrev main_cst_43 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_44 : Ref sig .tc := ⟨.hbm, 159, rfl⟩
abbrev main_v112 : Ref sig .tc := ⟨.hbm, 160, rfl⟩
abbrev main_v113 : Ref sig .tc := ⟨.hbm, 161, rfl⟩
abbrev main_cst_45 : Ref sig .tc := ⟨.hbm, 162, rfl⟩
abbrev main_v114 : Ref sig .tc := ⟨.hbm, 163, rfl⟩
abbrev main_v115 : Ref sig .tc := ⟨.hbm, 164, rfl⟩
abbrev main_cst_46 : Ref sig .tc := ⟨.hbm, 165, rfl⟩
abbrev main_v116 : Ref sig .tc := ⟨.hbm, 166, rfl⟩
abbrev main_cst_47 : Ref sig .tc := ⟨.hbm, 167, rfl⟩
abbrev main_v117 : Ref sig .tc := ⟨.hbm, 168, rfl⟩
abbrev main_v118 : Ref sig .tc := ⟨.hbm, 169, rfl⟩
abbrev main_cst_48 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_49 : Ref sig .tc := ⟨.hbm, 175, rfl⟩
abbrev main_v123 : Ref sig .tc := ⟨.hbm, 176, rfl⟩
abbrev main_v124 : Ref sig .tc := ⟨.hbm, 177, rfl⟩
abbrev main_cst_50 : Ref sig .tc := ⟨.hbm, 178, rfl⟩
abbrev main_v125 : Ref sig .tc := ⟨.hbm, 179, rfl⟩
abbrev main_v126 : Ref sig .tc := ⟨.hbm, 180, rfl⟩
abbrev main_cst_51 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_52 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_53 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_54 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_55 : Ref sig .tc := ⟨.hbm, 231, rfl⟩
abbrev main_v173 : Ref sig .tc := ⟨.hbm, 232, rfl⟩
abbrev main_v174 : Ref sig .tc := ⟨.hbm, 233, rfl⟩

abbrev nD : Nat := 1
abbrev τ : Topo := Topo.v7x

variable {F : FTy → Type} [FloatOps F]
-- ==== Proof.Spec.lean ====
/-
  The mathematics of the claim, over the real numbers and naming no program: the probabilities of a row of logits, the
  calibration error of a list of bin edges as the reference defines it, the same error from sums above each edge as the
  kernel takes it, and the proof that the two agree.
-/
module

public import Idealize.ShloMosaic.Lib.ValueIdx
public import Idealize.ShloMosaic.PureOps.Ideal

@[expose] public section

noncomputable section

namespace Calib

open Finset

/-! ## Definitions -/

/-- The largest logit of row `b`. -/
def rowMax (X : Fin 65536 → Fin 128 → ℝ) (b : Fin 65536) : ℝ := univ.sup' ⟨0, mem_univ _⟩ (X b)

/-- The exponential of a logit less its row's largest. -/
def expo (X : Fin 65536 → Fin 128 → ℝ) (b : Fin 65536) (c : Fin 128) : ℝ := Real.exp (X b c - rowMax X b)

/-- The sum of row `b`'s exponentials. -/
def total (X : Fin 65536 → Fin 128 → ℝ) (b : Fin 65536) : ℝ := ∑ c, expo X b c

/-- The probability of class `c` in row `b`: softmax. -/
def prob (X : Fin 65536 → Fin 128 → ℝ) (b : Fin 65536) (c : Fin 128) : ℝ := expo X b c / total X b

/-- One where class `c` is the row's target class, else zero. -/
def hot (T : Fin 65536 → BitVec 32) (b : Fin 65536) (c : Fin 128) : ℝ := if T b = BitVec.ofNat 32 c.val then 1 else 0

/-- One where `p` lies in the bin `(lo, hi]`, else zero. -/
def ind (lo hi p : ℝ) : ℝ := if lo < p ∧ p ≤ hi then 1 else 0

/-- How many rows' probabilities of class `c` lie in bin `i` of the edges `e`. -/
def cnt (X : Fin 65536 → Fin 128 → ℝ) (e : Fin 11 → ℝ) (c : Fin 128) (i : Fin 10) : ℝ :=
  ∑ b, ind (e i.castSucc) (e i.succ) (prob X b c)

/-- How many of these rows have `c` for a target. -/
def hits (X : Fin 65536 → Fin 128 → ℝ) (T : Fin 65536 → BitVec 32) (e : Fin 11 → ℝ) (c : Fin 128) (i : Fin 10) : ℝ :=
  ∑ b, ind (e i.castSucc) (e i.succ) (prob X b c) * hot T b c

/-- The sum of these rows' probabilities. -/
def conf (X : Fin 65536 → Fin 128 → ℝ) (e : Fin 11 → ℝ) (c : Fin 128) (i : Fin 10) : ℝ :=
  ∑ b, ind (e i.castSucc) (e i.succ) (prob X b c) * prob X b c

/-- The calibration error of the edges `e`, as the reference defines it. -/
def refLoss (X : Fin 65536 → Fin 128 → ℝ) (T : Fin 65536 → BitVec 32) (e : Fin 11 → ℝ) : ℝ :=
  ∑ c, ∑ i, |hits X T e c i / max (cnt X e c i) 1 - conf X e c i / max (cnt X e c i) 1| * cnt X e c i
    / ∑ c, ∑ i, cnt X e c i

/-- Class `c`'s sum of `hot - prob` over the rows whose probability exceeds `t`. -/
def above (X : Fin 65536 → Fin 128 → ℝ) (T : Fin 65536 → BitVec 32) (t : ℝ) (c : Fin 128) : ℝ :=
  ∑ b, if t < prob X b c then hot T b c - prob X b c else 0

/-- The calibration error from the sums above each edge, as the kernel takes it. -/
def cumLoss (X : Fin 65536 → Fin 128 → ℝ) (T : Fin 65536 → BitVec 32) (e : Fin 11 → ℝ) : ℝ :=
  (∑ i : Fin 10, ∑ c, |above X T (e i.castSucc) c - above X T (e i.succ) c|) / 8388608

/-! ## Probabilities -/

theorem le_rowMax (X : Fin 65536 → Fin 128 → ℝ) (b : Fin 65536) (c : Fin 128) : X b c ≤ rowMax X b :=
  le_sup' (X b) (mem_univ c)

theorem expo_pos (X : Fin 65536 → Fin 128 → ℝ) (b : Fin 65536) (c : Fin 128) : 0 < expo X b c := Real.exp_pos _

theorem total_pos (X : Fin 65536 → Fin 128 → ℝ) (b : Fin 65536) : 0 < total X b :=
  sum_pos (fun c _ => expo_pos X b c) ⟨0, mem_univ _⟩

/-- A probability is positive. -/
theorem prob_pos (X : Fin 65536 → Fin 128 → ℝ) (b : Fin 65536) (c : Fin 128) : 0 < prob X b c :=
  div_pos (expo_pos X b c) (total_pos X b)

/-- A probability is at most one. -/
theorem prob_le_one (X : Fin 65536 → Fin 128 → ℝ) (b : Fin 65536) (c : Fin 128) : prob X b c ≤ 1 :=
  (div_le_one (total_pos X b)).mpr (single_le_sum (f := expo X b) (fun d _ => (expo_pos X b d).le) (mem_univ c))

/-! ## The sums above the edges -/

/-- Above zero lie all the rows. -/
theorem above_zero (X : Fin 65536 → Fin 128 → ℝ) (T : Fin 65536 → BitVec 32) (c : Fin 128) :
    above X T 0 c = ∑ b, (hot T b c - prob X b c) :=
  sum_congr rfl fun b _ => if_pos (prob_pos X b c)

/-- Above one lies none. -/
theorem above_one (X : Fin 65536 → Fin 128 → ℝ) (T : Fin 65536 → BitVec 32) (c : Fin 128) : above X T 1 c = 0 :=
  sum_eq_zero fun b _ => if_neg (not_lt.mpr (prob_le_one X b c))

/-- The difference of the sums above two edges is the sum over the bin between them. -/
theorem above_sub (X : Fin 65536 → Fin 128 → ℝ) (T : Fin 65536 → BitVec 32) (e : Fin 11 → ℝ) (he : Monotone e)
    (c : Fin 128) (i : Fin 10) :
    above X T (e i.castSucc) c - above X T (e i.succ) c = hits X T e c i - conf X e c i := by
  have hle : e i.castSucc ≤ e i.succ := he (Fin.castSucc_lt_succ).le
  unfold above hits conf
  rw [← sum_sub_distrib, ← sum_sub_distrib]
  refine sum_congr rfl fun b _ => ?_
  unfold ind
  by_cases h1 : e i.castSucc < prob X b c
  · by_cases h2 : e i.succ < prob X b c
    · simp [h1, h2, not_le.mpr h2]
    · simp [h1, h2, not_lt.mp h2]
  · have h2 : ¬ e i.succ < prob X b c := fun h => h1 (lt_of_le_of_lt hle h)
    simp [h1, h2]

/-! ## The bins -/

theorem ind_nonneg (lo hi p : ℝ) : 0 ≤ ind lo hi p := by unfold ind; split_ifs <;> norm_num

/-- A bin with a row in it counts at least one. -/
theorem cnt_eq_zero_or (X : Fin 65536 → Fin 128 → ℝ) (e : Fin 11 → ℝ) (c : Fin 128) (i : Fin 10) :
    (∀ b, ind (e i.castSucc) (e i.succ) (prob X b c) = 0) ∨ 1 ≤ cnt X e c i := by
  by_cases h : ∀ b, ind (e i.castSucc) (e i.succ) (prob X b c) = 0
  · exact .inl h
  · push Not at h
    obtain ⟨b, hb⟩ := h
    have h1 : ind (e i.castSucc) (e i.succ) (prob X b c) = 1 := by
      unfold ind at hb ⊢; split_ifs at hb ⊢ with h <;> simp_all
    refine .inr (h1 ▸ ?_)
    exact single_le_sum (f := fun b => ind (e i.castSucc) (e i.succ) (prob X b c)) (fun b _ => ind_nonneg _ _ _) (mem_univ b)

/-- A bin's averages' difference, weighted by its count, is the difference of its sums; an empty bin gives zero. -/
theorem weighted (X : Fin 65536 → Fin 128 → ℝ) (T : Fin 65536 → BitVec 32) (e : Fin 11 → ℝ) (c : Fin 128) (i : Fin 10) :
    |hits X T e c i / max (cnt X e c i) 1 - conf X e c i / max (cnt X e c i) 1| * cnt X e c i
      = |hits X T e c i - conf X e c i| := by
  rcases cnt_eq_zero_or X e c i with h | h
  · have h1 : hits X T e c i = 0 := sum_eq_zero fun b _ => by rw [h b, zero_mul]
    have h2 : conf X e c i = 0 := sum_eq_zero fun b _ => by rw [h b, zero_mul]
    simp [h1, h2]
  · have hp : 0 < cnt X e c i := lt_of_lt_of_le one_pos h
    rw [max_eq_left h, ← sub_div, abs_div, abs_of_pos hp, div_mul_cancel₀ _ hp.ne']

/-- A probability lies in just one bin. -/
theorem sum_ind (e : Fin 11 → ℝ) (he : Monotone e) (h0 : e 0 = 0) (h1 : e (Fin.last 10) = 1) (p : ℝ) (hp : 0 < p) (hp1 : p ≤ 1) :
    ∑ i : Fin 10, ind (e i.castSucc) (e i.succ) p = 1 := by
  have hd : ∀ i : Fin 10, ind (e i.castSucc) (e i.succ) p
      = (if e i.castSucc < p then 1 else 0) - (if e i.succ < p then (1 : ℝ) else 0) := fun i => by
    have hle : e i.castSucc ≤ e i.succ := he (Fin.castSucc_lt_succ).le
    unfold ind
    by_cases h1 : e i.castSucc < p
    · by_cases h2 : e i.succ < p
      · simp [h1, h2, not_le.mpr h2]
      · simp [h1, h2, not_lt.mp h2]
    · have h2 : ¬ e i.succ < p := fun h => h1 (lt_of_le_of_lt hle h)
      simp [h1, h2]
  have ht : ∀ f : Fin 11 → ℝ, ∑ i : Fin 10, (f i.castSucc - f i.succ) = f 0 - f (Fin.last 10) := fun f => by
    have a := Fin.sum_univ_castSucc f
    have b := Fin.sum_univ_succ f
    rw [sum_sub_distrib]; linarith
  rw [sum_congr rfl fun i _ => hd i, ht fun j => if e j < p then 1 else 0, h0, h1, if_pos hp, if_neg (not_lt.mpr hp1), sub_zero]

/-- The bins count every row of every class. -/
theorem sum_cnt (X : Fin 65536 → Fin 128 → ℝ) (e : Fin 11 → ℝ) (he : Monotone e) (h0 : e 0 = 0) (h1 : e (Fin.last 10) = 1) :
    ∑ c, ∑ i, cnt X e c i = 8388608 := by
  have h : ∀ c, ∑ i, cnt X e c i = 65536 := fun c => by
    unfold cnt
    rw [sum_comm, sum_congr rfl fun b _ => sum_ind e he h0 h1 _ (prob_pos X b c) (prob_le_one X b c)]
    simp
  rw [sum_congr rfl fun c _ => h c]
  norm_num

/-! ## The two errors agree -/

/-- Over increasing edges from zero to one, the error from the sums above the edges is the calibration error. -/
theorem cumLoss_eq (X : Fin 65536 → Fin 128 → ℝ) (T : Fin 65536 → BitVec 32) (e : Fin 11 → ℝ) (he : Monotone e)
    (h0 : e 0 = 0) (h1 : e (Fin.last 10) = 1) : cumLoss X T e = refLoss X T e := by
  unfold cumLoss refLoss
  rw [sum_cnt X e he h0 h1, sum_comm, sum_div]
  refine sum_congr rfl fun c _ => ?_
  rw [sum_div]
  exact sum_congr rfl fun i _ => by rw [weighted, above_sub X T e he]

/-- Two lists of edges that no probability tells apart have the same error. -/
theorem cumLoss_congr (X : Fin 65536 → Fin 128 → ℝ) (T : Fin 65536 → BitVec 32) (e e' : Fin 11 → ℝ)
    (h : ∀ j b c, e j < prob X b c ↔ e' j < prob X b c) : cumLoss X T e = cumLoss X T e' := by
  have ha : ∀ j c, above X T (e j) c = above X T (e' j) c := fun j c => sum_congr rfl fun b _ => by
    simp only [h j b c]
  unfold cumLoss
  simp only [ha]

end Calib

end
-- ==== Proof.Reals.lean ====
/-
  Readings of extended reals that are real numbers: a sum, a maximum, a quotient and an absolute value of reals, the
  probabilities as the kernel and as the reference take them, the bins' indicators, and the words of the edges.
-/
module

public import proofs.«01_k».proof.Proof.Spec
public import Idealize.ShloMosaic.Lib.Pointwise

@[expose] public section

noncomputable section

namespace Calib

open Finset Idealize.ShloMosaic

/-! ## Arithmetic on reals -/

/-- The sum of reals is a real. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [sum_insert ha, sum_insert ha, ih, EReal.coe_add]

/-- The quotient of reals is a real, the divisor not being zero. -/
theorem coe_div (a : ℝ) {b : ℝ} (hb : b ≠ 0) : Ideal.div (a : EReal) (b : EReal) = ((a / b : ℝ) : EReal) := by
  rw [Ideal.div_coe hb, ← EReal.coe_mul, mul_one_div]

/-- The absolute value of a real is a real. -/
theorem coe_abs (φ : FTy) (a : ℝ) : FloatOps.absf (F := Ideal) (φ := φ) ((a : ℝ) : EReal) = ((|a| : ℝ) : EReal) := by
  show max (a : EReal) (-(a : EReal)) = _
  rw [abs_eq_max_neg, ← EReal.coe_neg]
  exact (EReal.coe_strictMono.monotone.map_max (a := a) (b := -a)).symm

theorem ofBits_neg_inf : Ideal.ofBits .f32 0xFF800000#32 = ⊥ := by
  simp [Ideal.ofBits, Ideal.ieee]

/-- The maximum of a row of reals, from minus infinity. -/
theorem fold_max_coe (x : Fin 128 → ℝ) :
    Finset.univ.fold max (Ideal.ofBits .f32 0xFF800000#32) (fun d => ((x d : ℝ) : EReal))
      = ((univ.sup' ⟨0, mem_univ _⟩ x : ℝ) : EReal) := by
  rw [ofBits_neg_inf]
  show Finset.univ.sup (fun d => ((x d : ℝ) : EReal)) = _
  refine le_antisymm (Finset.sup_le fun d _ => EReal.coe_le_coe_iff.mpr (le_sup' x (mem_univ d))) ?_
  obtain ⟨d, hd, he⟩ := exists_mem_eq_sup' ⟨(0 : Fin 128), mem_univ _⟩ x
  rw [he]
  exact Finset.le_sup (f := fun d => ((x d : ℝ) : EReal)) hd

/-! ## The probabilities -/

/-- The maximum of a row, from minus infinity. -/
def top (row : Fin 128 → EReal) : EReal := Finset.univ.fold max (Ideal.ofBits .f32 0xFF800000#32) row

/-- The probability as the kernel takes it: by the reciprocal of the row's sum. -/
def kernelProb (row : Fin 128 → EReal) (c : Fin 128) : EReal :=
  Ideal.exp (row c - top row) * Ideal.div 1 (∑ d, Ideal.exp (row d - top row))

/-- The probability as the reference takes it: divided by the row's sum. -/
def hostProb (row : Fin 128 → EReal) (c : Fin 128) : EReal :=
  Ideal.div (Ideal.exp (row c - max (Ideal.ofBits .f32 0xFF800000#32) (top row)))
    (∑ d, Ideal.exp (row d - max (Ideal.ofBits .f32 0xFF800000#32) (top row)))

theorem coe_expo (X : Fin 65536 → Fin 128 → ℝ) (b : Fin 65536) (c : Fin 128) :
    Ideal.exp (((X b c : ℝ) : EReal) - ((rowMax X b : ℝ) : EReal)) = ((expo X b c : ℝ) : EReal) := by
  rw [← EReal.coe_sub, Ideal.exp_coe]; rfl

/-- The kernel's probability of a row of reals is softmax. -/
theorem kernelProb_coe (X : Fin 65536 → Fin 128 → ℝ) (b : Fin 65536) (c : Fin 128) :
    kernelProb (fun d => ((X b d : ℝ) : EReal)) c = ((prob X b c : ℝ) : EReal) := by
  have ht : top (fun d => ((X b d : ℝ) : EReal)) = ((rowMax X b : ℝ) : EReal) := fold_max_coe (X b)
  unfold kernelProb
  simp only [ht, coe_expo]
  rw [coe_sum]
  have h1 : (1 : EReal) = ((1 : ℝ) : EReal) := rfl
  rw [h1, show (∑ i, expo X b i) = total X b from rfl, coe_div 1 (total_pos X b).ne', ← EReal.coe_mul, mul_one_div]
  rfl

/-- So is the reference's. -/
theorem hostProb_coe (X : Fin 65536 → Fin 128 → ℝ) (b : Fin 65536) (c : Fin 128) :
    hostProb (fun d => ((X b d : ℝ) : EReal)) c = ((prob X b c : ℝ) : EReal) := by
  have ht : top (fun d => ((X b d : ℝ) : EReal)) = ((rowMax X b : ℝ) : EReal) := fold_max_coe (X b)
  unfold hostProb
  rw [ofBits_neg_inf]
  simp only [ht, bot_sup_eq, coe_expo]
  rw [coe_sum]
  exact coe_div _ (total_pos X b).ne'

/-! ## Targets and bins -/

/-- The reference's one-hot target. -/
theorem uitofp_hot (T : Fin 65536 → BitVec 32) (b : Fin 65536) (c : Fin 128) :
    FloatOps.uitofp (F := Ideal) .f32 (IntOp.cmpi .eq (T b) (BitVec.ofNat 32 c.val)) = ((hot T b c : ℝ) : EReal) := by
  show (((BitVec.ofBool (T b == BitVec.ofNat 32 c.val)).toNat : ℝ) : EReal) = _
  unfold hot
  by_cases h : T b = BitVec.ofNat 32 c.val <;> simp [h]

/-- The kernel's one-hot target. -/
theorem select_hot (T : Fin 65536 → BitVec 32) (b : Fin 65536) (c : Fin 128) :
    Scalar.select (IntOp.cmpi .eq (T b) (BitVec.ofNat 32 c.val)) (1 : EReal) 0 = ((hot T b c : ℝ) : EReal) := by
  show (if (BitVec.ofBool (T b == BitVec.ofNat 32 c.val)) = 1#1 then (1 : EReal) else 0) = _
  unfold hot
  by_cases h : T b = BitVec.ofNat 32 c.val
  · simp [h]
  · rw [if_neg h, beq_false_of_ne h]
    simp

/-- The reference's indicator of a bin. -/
theorem uitofp_ind (lo hi p : ℝ) :
    FloatOps.uitofp (F := Ideal) .f32 (IntOp.andi (BitVec.ofBool (decide ((lo : EReal) < (p : EReal)))) (BitVec.ofBool (decide ((p : EReal) ≤ (hi : EReal)))))
      = ((ind lo hi p : ℝ) : EReal) := by
  show ((((BitVec.ofBool (decide ((lo : EReal) < (p : EReal)))) &&& (BitVec.ofBool (decide ((p : EReal) ≤ (hi : EReal))))).toNat : ℝ) : EReal) = _
  unfold ind
  by_cases h1 : lo < p <;> by_cases h2 : p ≤ hi <;> simp [h1, h2, EReal.coe_lt_coe_iff, EReal.coe_le_coe_iff]

/-! ## The edges -/

/-- The edges at tenths, as their words say. -/
def tenths : Fin 11 → ℝ := ![0, 13421773/134217728, 13421773/67108864, 5033165/16777216, 13421773/33554432, 1/2, 5033165/8388608, 11744051/16777216, 13421773/16777216, 7549747/8388608, 1]

/-- The edges at the kernel's thresholds. -/
def tenthsBf16 : Fin 11 → ℝ := ![0, 51/512, 51/256, 153/512, 51/128, 255/512, 153/256, 179/256, 51/64, 115/128, 1]

theorem tenths_zero : tenths 0 = 0 := rfl
theorem tenths_last : tenths (Fin.last 10) = 1 := rfl
theorem tenthsBf16_zero : tenthsBf16 0 = 0 := rfl
theorem tenthsBf16_last : tenthsBf16 (Fin.last 10) = 1 := rfl

theorem tenths_monotone : Monotone tenths := by
  refine Fin.monotone_iff_le_succ.mpr fun i => ?_
  fin_cases i <;> simp [tenths] <;> norm_num

theorem tenthsBf16_monotone : Monotone tenthsBf16 := by
  refine Fin.monotone_iff_le_succ.mpr fun i => ?_
  fin_cases i <;> simp [tenthsBf16] <;> norm_num

/-- The words of the edges at tenths. -/
def edges : Fin 11 → BitVec 32 :=
  ![0x00000000#32, 0x3DCCCCCD#32, 0x3E4CCCCD#32, 0x3E99999A#32, 0x3ECCCCCD#32, 0x3F000000#32, 0x3F19999A#32, 0x3F333333#32, 0x3F4CCCCD#32, 0x3F666666#32, 0x3F800000#32]

/-- The words of the edges at the kernel's thresholds. -/
def edgesBf16 : Fin 11 → BitVec 32 :=
  ![0x00000000#32, 0x3DCC0000#32, 0x3E4C0000#32, 0x3E990000#32, 0x3ECC0000#32, 0x3EFF0000#32, 0x3F190000#32, 0x3F330000#32, 0x3F4C0000#32, 0x3F660000#32, 0x3F800000#32]

/-- The bits of the kernel's threshold `i`; the first has none: every row counts. -/
def thr : Fin 10 → Option (BitVec 16) :=
  ![none, some 0x3DCC#16, some 0x3E4C#16, some 0x3E99#16, some 0x3ECC#16, some 0x3EFF#16, some 0x3F19#16, some 0x3F33#16, some 0x3F4C#16, some 0x3F66#16]

theorem edges_value (i : Fin 11) : Ideal.ofBits .f32 (edges i) = ((tenths i : ℝ) : EReal) := by
  fin_cases i <;> simp [edges, tenths, Ideal.ofBits, Ideal.ieee, -EReal.coe_mul] <;> norm_num

theorem edgesBf16_value (i : Fin 11) : Ideal.ofBits .f32 (edgesBf16 i) = ((tenthsBf16 i : ℝ) : EReal) := by
  fin_cases i <;> simp [edgesBf16, tenthsBf16, Ideal.ofBits, Ideal.ieee, -EReal.coe_mul] <;> norm_num

theorem thr_zero : thr 0 = none := rfl

/-- A threshold after the first is the edge of its number. -/
theorem thr_value (i : Fin 10) (hi : i ≠ 0) : ∃ b, thr i = some b ∧ Ideal.ofBits .bf16 b = ((tenthsBf16 i.castSucc : ℝ) : EReal) := by
  fin_cases i
  · exact absurd rfl hi
  all_goals refine ⟨_, rfl, ?_⟩; simp [tenthsBf16, Ideal.ofBits, Ideal.ieee, -EReal.coe_mul] <;> norm_num

/-- The number of entries, as the kernel divides by it. -/
theorem ofBits_count : Ideal.ofBits .f32 0x4B000000#32 = ((8388608 : ℝ) : EReal) := by
  simp [Ideal.ofBits, Ideal.ieee, -EReal.coe_mul] <;> norm_num

end Calib

end
-- ==== Proof.Block.lean ====
/-
  What one grid point of the kernel leaves in its accumulator, and what the last one stores: the blocks the generated run
  found, written with one function of a chunk (`step`), folded over the point's sixteen chunks (`dots`).
-/
module

public import proofs.«01_k».proof.Proof.Gen.KernelIdeal.Value
public import proofs.«01_k».proof.Proof.Reals
public import Idealize.ShloMosaic.Lib.Pointwise
public import Idealize.ShloMosaic.Lib.Tactic

@[expose] public section

noncomputable section

namespace Cert.KernelIdeal.Hist

open Calib (thr)
open Cert.KernelIdeal Cert.KernelIdeal.Gen Idealize.ShloMosaic Idealize.ShloMosaic.TcCoe Idealize.SL.Sem

variable {F : FTy → Type} [FloatOps F]

/-! ## The rectangles a point reads and writes -/

theorem inbX (k : Fin 16) : ∀ a, (![512 * k.val, 0] : Fin S8192x128.rank → Nat) a + S512x128.size a ≤ S8192x128.size a := fun a => by
  have := k.isLt
  fin_cases a
  · show 512 * k.val + 512 ≤ 8192; omega
  · show 0 + 128 ≤ 128; omega

theorem inbT (k : Fin 16) : ∀ a, (![512 * k.val, 0] : Fin S8192x1.rank → Nat) a + S512x1.size a ≤ S8192x1.size a := fun a => by
  have := k.isLt
  fin_cases a
  · show 512 * k.val + 512 ≤ 8192; omega
  · show 0 + 1 ≤ 1; omega

theorem inbS (i : Fin 10) : ∀ a, (![8 * i.val, 0] : Fin S80x128.rank → Nat) a + S8x128.size a ≤ S80x128.size a := fun a => by
  have := i.isLt
  fin_cases a
  · show 8 * i.val + 8 ≤ 80; omega
  · show 0 + 128 ≤ 128; omega

/-- The rows of the point's block of logits that chunk `k` reads. -/
abbrev rectX (k : Fin 16) : Rect S8192x128 := Rect.unit (s := S8192x128) ![512 * k.val, 0] S512x128.size (inbX k)
/-- The rows of the point's block of targets that chunk `k` reads. -/
abbrev rectT (k : Fin 16) : Rect S8192x1 := Rect.unit (s := S8192x1) ![512 * k.val, 0] S512x1.size (inbT k)
/-- The eight accumulator rows of threshold `i`. -/
abbrev rectS (i : Fin 10) : Rect S80x128 := Rect.unit (s := S80x128) ![8 * i.val, 0] S8x128.size (inbS i)

/-! ## What a chunk adds -/

/-- A chunk's differences of target and probability, kept where the probability exceeds the threshold. -/
def sel (w : Option (BitVec 16)) (x : Vec F S512x128 .f32) (t : Vec F S512x1 .i32) : FVec F S512x128 .bf16 :=
  match w with
  | none => k0_pay36 x t
  | some b => select (cmpf .ogt (k0_pay35 x) (broadcast S512x128 (Scalar.ofBits .bf16 b))) (k0_pay36 x t)
      (broadcast S512x128 (Scalar.ofBits .bf16 0x0000#16))

/-- A chunk's differences summed over its rows, by a product with ones, and added to `acc`. -/
def step (w : Option (BitVec 16)) (acc : FVec F S8x128 .f32) (x : Vec F S512x128 .f32) (t : Vec F S512x1 .i32) : FVec F S8x128 .f32 :=
  addf acc (matmul dot_S8x512_S512x128_S8x128_1_0_0_1_n_n none (k0_pay23 (F := F)) (sel w x t) (constant S8x128 .f32 0x00000000#32))

/-- A left fold over the sixteen chunks. -/
def fold16 {α : Type} (f : α → Fin 16 → α) (z : α) : α :=
  f (f (f (f (f (f (f (f (f (f (f (f (f (f (f (f z 0) 1) 2) 3) 4) 5) 6) 7) 8) 9) 10) 11) 12) 13) 14) 15

/-- The point's sum for one threshold. -/
def dots (w : Option (BitVec 16)) (X : Fin 16 → Vec F S512x128 .f32) (T : Fin 16 → Vec F S512x1 .i32) : FVec F S8x128 .f32 :=
  fold16 (fun acc k => step w acc (X k) (T k)) (constant S8x128 .f32 0x00000000#32)

/-- What the first point stores for threshold `i`. -/
def pieceA (X : Fin 16 → Vec F S512x128 .f32) (T : Fin 16 → Vec F S512x1 .i32) (i : Fin 10) : View.Piece (Elt F) S80x128 .f32 :=
  ⟨rectS i, shapeCast S8x128 (dots (thr i) X T) shapeCasts_S8x128_S8x128⟩

/-- What a later point stores for threshold `i`: what was there and its own sum. -/
def pieceB (X : Fin 16 → Vec F S512x128 .f32) (T : Fin 16 → Vec F S512x1 .i32) (old : Fin 10 → Vec F S8x128 .f32) (i : Fin 10) : View.Piece (Elt F) S80x128 .f32 :=
  ⟨rectS i, shapeCast S8x128 (addf (old i) (dots (thr i) X T)) shapeCasts_S8x128_S8x128⟩

/-- Ten stores, the last first. -/
def list10 {α : Type} (f : Fin 10 → α) : List α := [f 9, f 8, f 7, f 6, f 5, f 4, f 3, f 2, f 1, f 0]

theorem forall_mem_list10 {α : Type} (f : Fin 10 → α) (P : α → Prop) (h : ∀ i, P (f i)) : ∀ p ∈ list10 f, P p := by
  intro p hp
  simp only [list10, List.mem_cons, List.not_mem_nil, or_false] at hp
  rcases hp with rfl | rfl | rfl | rfl | rfl | rfl | rfl | rfl | rfl | rfl <;> exact h _

/-! ## The stores the runs found -/

set_option maxRecDepth 65536 in
/-- The ten stores of the first point into the accumulator. -/
theorem piecesA (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : cond0_0 i) (hc1 : ¬cond0_1 i) (hc2 : ¬cond0_2 i)
    (x0 : Vec F S8192x128 .f32) (x1 : Vec F S8192x1 .i32) :
    (kernelRun0_A c i arg1 harg1 arg2 harg2 arg3 harg3 arg4 harg4 hc0 hc1 hc2 x0 x1).2.1
      = list10 (pieceA (fun k => View.readAt (Elt F) arg1.view (rectX k).toLoadRect (harg1.unread x0))
          (fun k => View.readAt (Elt F) arg2.view (rectT k).toLoadRect (harg2.unread x1))) := by
  sl_kernel_rfl

set_option maxRecDepth 65536 in
/-- The ten stores of a middle point into the accumulator. -/
theorem piecesB (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : ¬cond0_2 i)
    (x0 : Vec F S8192x128 .f32) (x1 : Vec F S8192x1 .i32) (xs0 : Vec F S80x128 .f32) :
    (kernelRun0_B c i arg1 harg1 arg2 harg2 arg3 harg3 arg4 harg4 hc0 hc1 hc2 x0 x1 xs0).2.1
      = list10 (pieceB (fun k => View.readAt (Elt F) arg1.view (rectX k).toLoadRect (harg1.unread x0))
          (fun k => View.readAt (Elt F) arg2.view (rectT k).toLoadRect (harg2.unread x1))
          (fun k => View.readAt (Elt F) arg4.view (rectS k).toLoadRect (harg4.unread xs0))) := by
  sl_kernel_rfl

set_option maxRecDepth 65536 in
/-- The ten stores of the last point into the accumulator. -/
theorem piecesC (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : cond0_2 i)
    (x0 : Vec F S8192x128 .f32) (x1 : Vec F S8192x1 .i32) (xs0 : Vec F S80x128 .f32) :
    (kernelRun0_C c i arg1 harg1 arg2 harg2 arg3 harg3 arg4 harg4 hc0 hc1 hc2 x0 x1 xs0).2.1
      = list10 (pieceB (fun k => View.readAt (Elt F) arg1.view (rectX k).toLoadRect (harg1.unread x0))
          (fun k => View.readAt (Elt F) arg2.view (rectT k).toLoadRect (harg2.unread x1))
          (fun k => View.readAt (Elt F) arg4.view (rectS k).toLoadRect (harg4.unread xs0))) := by
  sl_kernel_rfl

set_option maxRecDepth 65536 in
/-- The last point's store into the result: a function of the accumulator it has just stored. -/
theorem resultPiece (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : cond0_2 i)
    (x0 : Vec F S8192x128 .f32) (x1 : Vec F S8192x1 .i32) (xs0 : Vec F S80x128 .f32) :
    (kernelRun0_C c i arg1 harg1 arg2 harg2 arg3 harg3 arg4 harg4 hc0 hc1 hc2 x0 x1 xs0).1
      = [⟨Rect.unit (s := S1x1) ![0, 0] S1x1.size inb_S1x1_S1x1_0_0, fun _ => k0_pay6 (arg4.view.readCov (list10 (pieceB (fun k => View.readAt (Elt F) arg1.view (rectX k).toLoadRect (harg1.unread x0))
          (fun k => View.readAt (Elt F) arg2.view (rectT k).toLoadRect (harg2.unread x1))
          (fun k => View.readAt (Elt F) arg4.view (rectS k).toLoadRect (harg4.unread xs0)))) (Rect.unit (s := S80x128) ![0, 0] S80x128.size inb_S80x128_S80x128_0_0).toLoadRect)⟩] := by
  sl_kernel_rfl

/-! ## What the accumulator holds afterwards -/

/-- Chunk `k` of the point's block of logits. -/
abbrev chunkX (x0 : Vec F S8192x128 .f32) (k : Fin 16) : Vec F S512x128 .f32 := View.ld x0 (rectX k)
/-- Chunk `k` of the point's block of targets. -/
abbrev chunkT (x1 : Vec F S8192x1 .i32) (k : Fin 16) : Vec F S512x1 .i32 := View.ld x1 (rectT k)

/-- The threshold an accumulator row belongs to. -/
def binOf (y : S80x128.Idx) : Fin 10 := ⟨(y 0).val / 8, by have : (y 0).val < 80 := (y 0).isLt; omega⟩
/-- The place of an accumulator index among its threshold's rows. -/
def rowOf (y : S80x128.Idx) : S8x128.Idx := ix2 (⟨(y 0).val % 8, by omega⟩ : Fin 8) (y 1 : Fin 128)

theorem binOf_emb (i : Fin 10) (x : S8x128.Idx) : binOf ((rectS i).emb x) = i := Fin.ext (by
  have h : (x 0).val < 8 := (x 0).isLt
  show (8 * i.val + 1 * (x 0).val) / 8 = i.val
  omega)

theorem rowOf_emb (i : Fin 10) (x : S8x128.Idx) : rowOf ((rectS i).emb x) = x := funext fun a => Fin.ext (by
  have h : (x 0).val < 8 := (x 0).isLt
  match a with
  | ⟨0, _⟩ => show (8 * i.val + 1 * (x 0).val) % 8 = (x 0).val; omega
  | ⟨1, _⟩ => show 0 + 1 * (x 1).val = (x 1).val; omega)

theorem emb_of (y : S80x128.Idx) : (rectS (binOf y)).emb (rowOf y) = y := funext fun a => Fin.ext (by
  match a with
  | ⟨0, _⟩ => show 8 * ((y 0).val / 8) + 1 * ((y 0).val % 8) = (y 0).val; omega
  | ⟨1, _⟩ => show 0 + 1 * (y 1).val = (y 1).val; omega)

theorem hz : (![0, 0] : Fin 2 → Nat) = fun _ => 0 := funext fun a => by fin_cases a <;> rfl

theorem pieceA_apply (x0 : Vec F S8192x128 .f32) (x1 : Vec F S8192x1 .i32) (i : Fin 10) (x : S8x128.Idx) :
    shapeCast S8x128 (dots (thr i) (chunkX x0) (chunkT x1)) shapeCasts_S8x128_S8x128 x
      = dots (thr (binOf ((rectS i).emb x))) (chunkX x0) (chunkT x1) (rowOf ((rectS i).emb x)) := by
  rw [binOf_emb, rowOf_emb, shapeCast_self]

theorem pieceB_apply (x0 : Vec F S8192x128 .f32) (x1 : Vec F S8192x1 .i32) (xs0 : Vec F S80x128 .f32) (i : Fin 10) (x : S8x128.Idx) :
    shapeCast S8x128 (addf (View.ld xs0 (rectS i)) (dots (thr i) (chunkX x0) (chunkT x1))) shapeCasts_S8x128_S8x128 x
      = FloatOps.addf (xs0 ((rectS i).emb x)) (dots (thr (binOf ((rectS i).emb x))) (chunkX x0) (chunkT x1) (rowOf ((rectS i).emb x))) := by
  rw [binOf_emb, rowOf_emb]
  exact congrFun (shapeCast_self (s := S8x128) (addf (View.ld xs0 (rectS i)) (dots (thr i) (chunkX x0) (chunkT x1))) _) x

/-- The first point leaves its own sums. -/
theorem sout_A (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : cond0_0 i) (hc1 : ¬cond0_1 i) (hc2 : ¬cond0_2 i)
    (x0 : Vec F S8192x128 .f32) (x1 : Vec F S8192x1 .i32) (y : S80x128.Idx) :
    sout0_A_0 c i arg1 harg1 arg2 harg2 arg3 harg3 arg4 harg4 hc0 hc1 hc2 x0 x1 y
      = dots (thr (binOf y)) (chunkX x0) (chunkT x1) (rowOf y) := by
  unfold sout0_A_0
  rw [View.read_writes_eq_canon _ _ _ (scover0_A_0 c i arg1 harg1 arg2 harg2 arg3 harg3 arg4 harg4 hc0 hc1 hc2 x0 x1)]
  refine View.canon_apply_of_pieces (fun y => dots (thr (binOf y)) (chunkX x0) (chunkT x1) (rowOf y)) _ ?_ y
    (scover0_A_0 c i arg1 harg1 arg2 harg2 arg3 harg3 arg4 harg4 hc0 hc1 hc2 x0 x1 y)
  rw [piecesA]
  simp only [View.readAt_eq_ld, harg1.read_unread, harg2.read_unread]
  exact forall_mem_list10 _ _ fun i x => pieceA_apply x0 x1 i x

/-- A later point adds its sums to what the accumulator held, whichever later point it is. -/
theorem canon_pieceB (x0 : Vec F S8192x128 .f32) (x1 : Vec F S8192x1 .i32) (xs0 : Vec F S80x128 .f32) (y : S80x128.Idx)
    (hy : ∃ p ∈ list10 (pieceB (chunkX x0) (chunkT x1) (fun k => View.ld xs0 (rectS k))), y ∈ p.1.set) :
    View.canon (list10 (pieceB (chunkX x0) (chunkT x1) (fun k => View.ld xs0 (rectS k)))) y
      = FloatOps.addf (xs0 y) (dots (thr (binOf y)) (chunkX x0) (chunkT x1) (rowOf y)) := by
  refine View.canon_apply_of_pieces (fun y => FloatOps.addf (xs0 y) (dots (thr (binOf y)) (chunkX x0) (chunkT x1) (rowOf y))) _ ?_ y hy
  exact forall_mem_list10 _ _ fun i x => pieceB_apply x0 x1 xs0 i x

/-- A later point's loads read the chunks of its blocks and the accumulator's rows. -/
theorem readChunksB (arg1 : Memref sig .tc .vmem S8192x128 .f32) (harg1 : arg1.IsWhole) (arg2 : Memref sig .tc .vmem S8192x1 .i32) (harg2 : arg2.IsWhole) (arg4 : Memref sig .tc .vmem S80x128 .f32) (harg4 : arg4.IsWhole)
    (x0 : Vec F S8192x128 .f32) (x1 : Vec F S8192x1 .i32) (xs0 : Vec F S80x128 .f32) :
    pieceB (fun k => View.readAt (Elt F) arg1.view (rectX k).toLoadRect (harg1.unread x0))
          (fun k => View.readAt (Elt F) arg2.view (rectT k).toLoadRect (harg2.unread x1))
          (fun k => View.readAt (Elt F) arg4.view (rectS k).toLoadRect (harg4.unread xs0))
      = pieceB (chunkX x0) (chunkT x1) (fun k => View.ld xs0 (rectS k)) := by
  have hx : (fun k => View.readAt (Elt F) arg1.view (rectX k).toLoadRect (harg1.unread x0)) = chunkX x0 := funext fun k => by rw [View.readAt_eq_ld, harg1.read_unread]
  have ht : (fun k => View.readAt (Elt F) arg2.view (rectT k).toLoadRect (harg2.unread x1)) = chunkT x1 := funext fun k => by rw [View.readAt_eq_ld, harg2.read_unread]
  have hs : (fun k => View.readAt (Elt F) arg4.view (rectS k).toLoadRect (harg4.unread xs0)) = fun k => View.ld xs0 (rectS k) := funext fun k => by rw [View.readAt_eq_ld, harg4.read_unread]
  rw [hx, ht, hs]

/-- A middle point adds its sums to what the accumulator held. -/
theorem sout_B (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : ¬cond0_2 i)
    (x0 : Vec F S8192x128 .f32) (x1 : Vec F S8192x1 .i32) (xs0 : Vec F S80x128 .f32) (y : S80x128.Idx) :
    sout0_B_0 c i arg1 harg1 arg2 harg2 arg3 harg3 arg4 harg4 hc0 hc1 hc2 x0 x1 xs0 y
      = FloatOps.addf (xs0 y) (dots (thr (binOf y)) (chunkX x0) (chunkT x1) (rowOf y)) := by
  have hcov := scover0_B_0 c i arg1 harg1 arg2 harg2 arg3 harg3 arg4 harg4 hc0 hc1 hc2 x0 x1 xs0
  unfold sout0_B_0
  rw [View.read_writes_eq_canon _ _ _ hcov]
  rw [piecesB] at hcov ⊢
  rw [readChunksB] at hcov ⊢
  exact canon_pieceB x0 x1 xs0 y (hcov y)

/-- The last point adds its sums to what the accumulator held. -/
theorem sout_C (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : cond0_2 i)
    (x0 : Vec F S8192x128 .f32) (x1 : Vec F S8192x1 .i32) (xs0 : Vec F S80x128 .f32) (y : S80x128.Idx) :
    sout0_C_0 c i arg1 harg1 arg2 harg2 arg3 harg3 arg4 harg4 hc0 hc1 hc2 x0 x1 xs0 y
      = FloatOps.addf (xs0 y) (dots (thr (binOf y)) (chunkX x0) (chunkT x1) (rowOf y)) := by
  have hcov := scover0_C_0 c i arg1 harg1 arg2 harg2 arg3 harg3 arg4 harg4 hc0 hc1 hc2 x0 x1 xs0
  unfold sout0_C_0
  rw [View.read_writes_eq_canon _ _ _ hcov]
  rw [piecesC] at hcov ⊢
  rw [readChunksB] at hcov ⊢
  exact canon_pieceB x0 x1 xs0 y (hcov y)

/-- The last point stores the final value of what it leaves in the accumulator. -/
theorem out_C (c : Dev nD) (i : grid0.Coords) (arg1 : Memref sig .tc .vmem S8192x128 .f32) (harg1 : arg1.IsWhole) (arg2 : Memref sig .tc .vmem S8192x1 .i32) (harg2 : arg2.IsWhole) (arg3 : Memref sig .tc .smem S1x1 .f32) (harg3 : arg3.IsWhole) (arg4 : Memref sig .tc .vmem S80x128 .f32) (harg4 : arg4.IsWhole) (hc0 : ¬cond0_0 i) (hc1 : cond0_1 i) (hc2 : cond0_2 i)
    (x0 : Vec F S8192x128 .f32) (x1 : Vec F S8192x1 .i32) (xs0 : Vec F S80x128 .f32) :
    out0_C_2 c i arg1 harg1 arg2 harg2 arg3 harg3 arg4 harg4 hc0 hc1 hc2 x0 x1 xs0
      = fun _ => k0_pay6 (sout0_C_0 c i arg1 harg1 arg2 harg2 arg3 harg3 arg4 harg4 hc0 hc1 hc2 x0 x1 xs0) := by
  have hcov := scover0_C_0 c i arg1 harg1 arg2 harg2 arg3 harg3 arg4 harg4 hc0 hc1 hc2 x0 x1 xs0
  have hs : sout0_C_0 c i arg1 harg1 arg2 harg2 arg3 harg3 arg4 harg4 hc0 hc1 hc2 x0 x1 xs0
      = View.canon (kernelRun0_C c i arg1 harg1 arg2 harg2 arg3 harg3 arg4 harg4 hc0 hc1 hc2 x0 x1 xs0).2.1 := View.read_writes_eq_canon _ _ _ hcov
  rw [piecesC] at hcov hs
  rw [hs]
  unfold out0_C_2
  rw [View.read_writes_eq_canon _ _ _ (cover0_C_2 c i arg1 harg1 arg2 harg2 arg3 harg3 arg4 harg4 hc0 hc1 hc2 x0 x1 xs0), resultPiece, View.canon_unit_zero (S := S1x1) hz,
    View.readCov_eq_canon_ld _ _ _ hcov, View.ld_unit_zero (S := S80x128) hz]
  rfl

end Cert.KernelIdeal.Hist

end
-- ==== Proof.Chunk.lean ====
/-
  What a chunk adds to an accumulator row, over the reals: one term a row of logits.
-/
module

public import proofs.«01_k».proof.Proof.Block

@[expose] public section

noncomputable section

namespace Cert.KernelIdeal.Hist

open Calib (thr kernelProb top)
open Cert.KernelIdeal Cert.KernelIdeal.Gen Idealize.ShloMosaic Idealize.ShloMosaic.TcCoe Idealize.SL.Sem

/-- A row's difference of target and probability at class `c`, kept where the probability exceeds the threshold. -/
def rowTerm (w : Option (BitVec 16)) (row : Fin 128 → EReal) (t : BitVec 32) (c : Fin 128) : EReal :=
  match w with
  | none => Scalar.select (IntOp.cmpi .eq t (BitVec.ofNat 32 c.val)) (1 : EReal) 0 - kernelProb row c
  | some b => if Ideal.ofBits .bf16 b < kernelProb row c
      then Scalar.select (IntOp.cmpi .eq t (BitVec.ofNat 32 c.val)) (1 : EReal) 0 - kernelProb row c else 0

/-- The kernel's probability at an index. -/
theorem prob_apply (x : Vec Ideal S512x128 .f32) (r : Fin 512) (c : Fin 128) :
    k0_pay34 (F := Ideal) x (ix2 r c) = kernelProb (fun d => x (ix2 r d)) c := by
  unfold kernelProb top
  pointwise [k0_pay34]

/-- A chunk's difference of target and probability at an index. -/
theorem diff_apply (x : Vec Ideal S512x128 .f32) (t : Vec Ideal S512x1 .i32) (r : Fin 512) (c : Fin 128) :
    k0_pay36 (F := Ideal) x t (ix2 r c)
      = Scalar.select (IntOp.cmpi .eq (t (ix2 r 0)) (BitVec.ofNat 32 c.val)) (1 : EReal) 0 - kernelProb (fun d => x (ix2 r d)) c := by
  rw [← prob_apply]
  pointwise [k0_pay36]

/-- A chunk's kept difference at an index. -/
theorem sel_apply (w : Option (BitVec 16)) (x : Vec Ideal S512x128 .f32) (t : Vec Ideal S512x1 .i32) (r : Fin 512) (c : Fin 128) :
    sel (F := Ideal) w x t (ix2 r c) = rowTerm w (fun d => x (ix2 r d)) (t (ix2 r 0)) c := by
  cases w with
  | none => exact diff_apply x t r c
  | some b =>
    unfold rowTerm
    rw [← diff_apply, ← prob_apply]
    pointwise [sel, k0_pay35]

/-- A chunk's sum: every accumulator row of the threshold gets the sum over the chunk's rows. -/
theorem step_apply (w : Option (BitVec 16)) (acc : FVec Ideal S8x128 .f32) (x : Vec Ideal S512x128 .f32) (t : Vec Ideal S512x1 .i32) (r : Fin 8) (c : Fin 128) :
    step w acc x t (ix2 r c) = acc (ix2 r c) + ∑ k : Fin 512, rowTerm w (fun d => x (ix2 k d)) (t (ix2 k 0)) c := by
  simp only [← sel_apply]
  pointwise [step, k0_pay23]

/-- A fold that adds a term a step, read through `g`, is a sum. -/
theorem fold16_sum {α : Type} (f : α → Fin 16 → α) (z : α) (g : α → EReal) (term : Fin 16 → EReal) (hz : g z = 0)
    (h : ∀ a k, g (f a k) = g a + term k) : g (fold16 f z) = ∑ k, term k := by
  unfold fold16
  simp only [h, hz, Fin.sum_univ_succ, Fin.sum_univ_zero, zero_add, add_zero, ← add_assoc]
  rfl

/-- A point's sum for a threshold, at an index: the terms of the rows of its sixteen chunks. -/
theorem dots_apply (w : Option (BitVec 16)) (X : Fin 16 → Vec Ideal S512x128 .f32) (T : Fin 16 → Vec Ideal S512x1 .i32) (r : Fin 8) (c : Fin 128) :
    dots w X T (ix2 r c) = ∑ k : Fin 16, ∑ q : Fin 512, rowTerm w (fun d => X k (ix2 q d)) (T k (ix2 q 0)) c :=
  fold16_sum _ _ (fun a => a (ix2 r c)) _ (by pointwise []) (fun a k => step_apply w a (X k) (T k) r c)

end Cert.KernelIdeal.Hist
-- ==== Proof.Sum.lean ====
/-
  What the accumulator holds after the last point: for each threshold and class, the sum of one term a row of logits over
  the whole batch.
-/
module

public import proofs.«01_k».proof.Proof.Chunk
public import Idealize.ShloMosaic.Lib.Pipeline.Value
public import Idealize.ShloMosaic.Lib.Pipeline.ValueKit.Acc
public import Idealize.ShloMosaic.Lib.StableHlo.Run

@[expose] public section

noncomputable section

namespace Cert.KernelIdeal.Hist

open Calib (thr kernelProb top)
open Cert.KernelIdeal Cert.KernelIdeal.Gen Idealize.ShloMosaic Idealize.ShloMosaic.TcCoe Idealize.SL.Sem

/-- The targets when the region is entered: the argument, a column. -/
theorem V_targets {F : FTy → Type} [FloatOps F] (m : (ℓ : Loc nD τ sig) → Buf (Elt F) ℓ) (c : Dev nD) :
    V m c main_v0 = shapeCast S65536x1 (m ((c : Thread nD τ).loc main_arg1)) shapeCasts_S65536_S65536x1 := by
  show StableHlo.after hostOps0 _ (Proc.devRef .tc main_v0) = _
  after_results
  rfl

section Blocks

variable {F : FTy → Type} [FloatOps F] (m : (ℓ : Loc nD τ sig) → Buf (Elt F) ℓ) (c : Dev nD)

/-- The row of the batch that row `q` of chunk `k` of point `t` is. -/
def batchRow (t k q : ℕ) (ht : t < 8) (hk : k < 16) (hq : q < 512) : Fin 65536 := ⟨t * 8192 + (k * 512 + q), by omega⟩

theorem lt8 (t : Fin cfg0.N) : t.val < 8 := lt_of_lt_of_eq t.isLt (show cfg0.N = 8 from N_0)

/-- Chunk `k` of point `t`'s block of logits, at an index: the argument at the batch's row. -/
theorem chunkX_apply (t : Fin cfg0.N) (k : Fin 16) (q : Fin 512) (d : Fin 128) :
    chunkX (iblk m c 0 t) k (ix2 q d) = m ((c : Thread nD τ).loc main_arg0) (ix2 (batchRow t.val k.val q.val (lt8 t) k.isLt q.isLt) d) := by
  have hi : win0_0.index t 0 = t.val ∧ win0_0.index t 1 = 0 := by
    rcases fin_N0 t with rfl | rfl | rfl | rfl | rfl | rfl | rfl | rfl <;> decide
  show iblk m c 0 t ((rectX k).emb (ix2 q d)) = _
  unfold iblk
  rw [View.read_apply]
  show V m c main_arg0 _ = m (c.tc.loc main_arg0) _
  rw [V_main_arg0]
  congr 1
  funext a
  apply Fin.ext
  match a with
  | ⟨0, _⟩ => show win0_0.index t 0 * 8192 + 1 * (512 * k.val + 1 * q.val) = t.val * 8192 + (k.val * 512 + q.val); rw [hi.1]; omega
  | ⟨1, _⟩ => show win0_0.index t 1 * 128 + 1 * (0 + 1 * d.val) = d.val; rw [hi.2]; omega

/-- Chunk `k` of point `t`'s block of targets, at an index: the argument at the batch's row. -/
theorem chunkT_apply (t : Fin cfg0.N) (k : Fin 16) (q : Fin 512) :
    chunkT (iblk m c 1 t) k (ix2 q 0) = m ((c : Thread nD τ).loc main_arg1) (ix1 (batchRow t.val k.val q.val (lt8 t) k.isLt q.isLt)) := by
  have hi : win0_1.index t 0 = t.val ∧ win0_1.index t 1 = 0 := by
    rcases fin_N0 t with rfl | rfl | rfl | rfl | rfl | rfl | rfl | rfl <;> decide
  have hz : ∀ b : Fin 65536, shapeCast S65536x1 (m ((c : Thread nD τ).loc main_arg1)) shapeCasts_S65536_S65536x1 (ix2 b 0)
      = m ((c : Thread nD τ).loc main_arg1) (ix1 b) := fun b => by pointwise []
  show iblk m c 1 t ((rectT k).emb (ix2 q 0)) = _
  unfold iblk
  rw [View.read_apply]
  show V m c main_v0 _ = m (c.tc.loc main_arg1) _
  rw [V_targets, ← hz]
  congr 1
  funext a
  apply Fin.ext
  match a with
  | ⟨0, _⟩ => show win0_1.index t 0 * 8192 + 1 * (512 * k.val + 1 * q.val) = t.val * 8192 + (k.val * 512 + q.val); rw [hi.1]; omega
  | ⟨1, _⟩ => show win0_1.index t 1 * 1 + 1 * (0 + 1 * 0) = 0; rw [hi.2]

end Blocks

section Accumulator

variable (m : (ℓ : Loc nD τ sig) → Buf (Elt Ideal) ℓ) (c : Dev nD)

/-- The logits, by row and class. -/
abbrev logits (b : Fin 65536) (d : Fin 128) : EReal := m ((c : Thread nD τ).loc main_arg0) (ix2 b d)
/-- The targets, by row. -/
abbrev targets (b : Fin 65536) : BitVec 32 := m ((c : Thread nD τ).loc main_arg1) (ix1 b)

/-- One row's term of the accumulator. -/
abbrev term (w : Option (BitVec 16)) (d : Fin 128) (b : Fin 65536) : EReal := rowTerm w (logits m c b) (targets m c b) d

/-- The terms of the rows of block `t`. -/
def blockTerm (w : Option (BitVec 16)) (d : Fin 128) (t : ℕ) : EReal :=
  if ht : t < 8 then ∑ k : Fin 16, ∑ q : Fin 512, term m c w d (batchRow t k.val q.val ht k.isLt q.isLt) else 0

/-- The class an accumulator column belongs to. -/
def classOf (y : S80x128.Idx) : Fin 128 := y 1

/-- A point's sum for a threshold. -/
theorem dots_block (w : Option (BitVec 16)) (t : Fin cfg0.N) (y : S80x128.Idx) :
    dots w (chunkX (iblk m c 0 t)) (chunkT (iblk m c 1 t)) (rowOf y) = blockTerm m c w (classOf y) t.val := by
  refine (dots_apply w _ _ _ (classOf y)).trans ?_
  refine Eq.trans ?_ (dif_pos (lt8 t)).symm
  simp only [chunkX_apply, chunkT_apply]

/-- After the last point the accumulator holds, in each row of threshold `w`, the terms of all the blocks. -/
theorem acc_blocks (y : S80x128.Idx) (t : Fin cfg0.N) :
    (outsAt0 m c t.val t.isLt).2 y = 0 + ∑ k ∈ Finset.range (t.val + 1), blockTerm m c (thr (binOf y)) (classOf y) k := by
  refine Pipeline.eq_sum_of_reset_step_single (fun n h => (outsAt0 m c n h).2 y) 8 0 _ (fun t h0 => ?_) (fun t h0 => ?_) (le_of_eq (show cfg0.N = 8 from N_0)) t
  · have ht := lt8 t
    have h := outsAt0_A m c t h0 (by omega) (by omega)
    rw [zero_add]
    rw [h]
    dsimp only
    exact (sout_A ..).trans (dots_block m c _ t y)
  · have ht := lt8 t
    have hs : ∀ v, FloatOps.addf (F := Ideal) (φ := .f32) v (dots (thr (binOf y)) (chunkX (iblk m c 0 t)) (chunkT (iblk m c 1 t)) (rowOf y))
        = v + blockTerm m c (thr (binOf y)) (classOf y) t.val := fun v => by rw [dots_block]; rfl
    by_cases h7 : t.val % 8 = 7
    · have h := outsAt0_C m c t h0 (by omega) h7
      rw [h]
      dsimp only
      exact (sout_C ..).trans (hs _)
    · have h := outsAt0_B m c t h0 (by omega) h7
      rw [h]
      dsimp only
      exact (sout_B ..).trans (hs _)

/-- The blocks of the batch, one after the other, are the batch. -/
theorem sum_blocks (f : Fin 65536 → EReal) :
    ∑ t : Fin 8, ∑ k : Fin 16, ∑ q : Fin 512, f (batchRow t.val k.val q.val t.isLt k.isLt q.isLt) = ∑ b, f b := by
  refine Eq.trans ?_ (Fin.sum_mul_add_fin 8 8192 f rfl)
  refine Finset.sum_congr rfl fun t _ => ?_
  exact Fin.sum_mul_add_fin 16 512 (fun r : Fin 8192 => f ⟨t.val * 8192 + r.val, by have := t.isLt; have := r.isLt; omega⟩) rfl

/-- After the last point the accumulator holds, in each row of threshold `w`, the terms of the whole batch. -/
theorem acc_final (y : S80x128.Idx) : (outsAt0 m c t0_7.val t0_7.isLt).2 y = ∑ b, term m c (thr (binOf y)) (classOf y) b := by
  rw [acc_blocks, zero_add, ← sum_blocks]
  rw [show t0_7.val + 1 = 8 from rfl, Finset.sum_range]
  refine Finset.sum_congr rfl fun t _ => ?_
  exact dif_pos t.isLt

end Accumulator

end Cert.KernelIdeal.Hist
-- ==== Proof.Store.lean ====
/-
  The scalar the last point stores, as a function of the accumulator: the absolute differences of each threshold's sums
  and the next one's, added up and divided by the number of elements.
-/
module

public import proofs.«01_k».proof.Proof.Block
public import Idealize.ShloMosaic.Lib.Pipeline.Value

@[expose] public section

noncomputable section

namespace Cert.KernelIdeal.Hist

open Cert.KernelIdeal Cert.KernelIdeal.Gen Idealize.ShloMosaic Idealize.ShloMosaic.TcCoe Idealize.SL.Sem

section Shape

variable {F : FTy → Type} [FloatOps F]

theorem slices_row (i : Fin 10) : S80x128.Slices ![8 * i.val, 0] S1x128 := ⟨rfl, fun a => by
  have := i.isLt
  match a with
  | ⟨0, _⟩ => show 8 * i.val + 1 ≤ 80; omega
  | ⟨1, _⟩ => show 0 + 128 ≤ 128; omega⟩

/-- The first accumulator row of each threshold. -/
def firsts (v : Vec F S80x128 .f32) : FVec F S10x128 .f32 :=
  concatenate S10x128 0 (List.ofFn fun n : Fin 10 => (⟨S1x128, extractStridedSlice S1x128 ![8 * n.val, 0] v (slices_row n)⟩ : (s : Shape) × (s.Idx → F .f32)))
    concatenates_S1x128_S1x128_S1x128_S1x128_S1x128_S1x128_S1x128_S1x128_S1x128_S1x128_S10x128_d0

/-- Each threshold's next row, zero after the last. -/
def nexts (u : FVec F S10x128 .f32) : FVec F S10x128 .f32 :=
  concatenate S10x128 0 [⟨S9x128, extractStridedSlice S9x128 ![1, 0] u slices_S10x128_o1_0_S9x128⟩, ⟨S1x128, broadcast S1x128 (Scalar.ofBits .f32 0x00000000#32)⟩]
    concatenates_S9x128_S1x128_S10x128_d0

/-- The sum of a table. -/
def total (u : FVec F S10x128 .f32) : F .f32 :=
  extractAt ![0, 0, 0] (shapeCast S1x1x1 (multiReduction .add [1, 2] S1 (shapeCast S1x10x128 u shapeCasts_S10x128_S1x10x128) 0x00000000#32 reduces_S1x10x128_S1 (.inl rfl) rfl) shapeCasts_S1_S1x1x1)
    inpos_S1x1x1_p0_0_0

/-- The stored scalar, by these. -/
theorem stored_eq (v : Vec F S80x128 .f32) :
    k0_pay6 v = Scalar.divf (total (absf (subf (firsts v) (nexts (firsts v))))) (Scalar.ofBits .f32 0x4B000000#32) := by
  sl_kernel_rfl

/-- The first rows at an index. -/
theorem firsts_apply (v : Vec F S80x128 .f32) (i : Fin 10) (c : Fin 128) :
    firsts v (ix2 i c) = v (ix2 (⟨8 * i.val, by omega⟩ : Fin 80) c) := by
  unfold firsts
  refine (concatenate_ofFn_unit_apply (s₁ := S1x128) (0 : Fin S10x128.rank) _ _ rfl rfl (ix2 i c) i rfl (ix2 (0 : Fin 1) c : S1x128.Idx) fun b hb => ?_).trans ?_
  · match b with
    | ⟨0, _⟩ => exact absurd rfl hb
    | ⟨1, _⟩ => rfl
  · refine extractStridedSlice_apply _ v _ _ _ fun a => ?_
    match a with
    | ⟨0, _⟩ => rfl
    | ⟨1, _⟩ => show c.val = 0 + c.val; omega

/-- The next rows at an index before the last. -/
theorem nexts_castSucc (u : FVec F S10x128 .f32) (i : Fin 9) (c : Fin 128) : nexts u (ix2 (i.castSucc : Fin 10) c) = u (ix2 (i.succ : Fin 10) c) := by
  unfold nexts
  refine (concatenate_pair_apply_left (s₁ := S9x128) (s₂ := S1x128) (0 : Fin S10x128.rank) _ _ _ (ix2 (i.castSucc : Fin 10) c) rfl (ix2 i c : S9x128.Idx) fun b => ?_).trans ?_
  · match b with
    | ⟨0, _⟩ => rfl
    | ⟨1, _⟩ => rfl
  · refine extractStridedSlice_apply _ u _ _ _ fun a => ?_
    match a with
    | ⟨0, _⟩ => show i.val + 1 = 1 + i.val; omega
    | ⟨1, _⟩ => show c.val = 0 + c.val; omega

/-- The next row of the last threshold is zero. -/
theorem nexts_last (u : FVec F S10x128 .f32) (c : Fin 128) : nexts u (ix2 (Fin.last 9 : Fin 10) c) = FloatOps.ofBits .f32 0x00000000#32 := by
  unfold nexts
  refine (concatenate_pair_apply_right (s₁ := S9x128) (s₂ := S1x128) (0 : Fin S10x128.rank) _ _ _ (ix2 (Fin.last 9 : Fin 10) c) rfl rfl (ix2 (0 : Fin 1) c : S1x128.Idx) (fun b hb => ?_) rfl).trans ?_
  · match b with
    | ⟨0, _⟩ => exact absurd rfl hb
    | ⟨1, _⟩ => rfl
  · rfl

end Shape

/-- The sum of a table over the reals. -/
theorem total_apply (u : FVec Ideal S10x128 .f32) : total u = ∑ i : Fin 10, ∑ c : Fin 128, u (ix2 i c) := by
  unfold total
  pointwise []

/-- The stored scalar for an accumulator whose first rows are the reals `D i`, with zero after the last. -/
theorem stored_coe (v : Vec Ideal S80x128 .f32) (D : Fin 11 → Fin 128 → ℝ)
    (hv : ∀ (i : Fin 10) (c : Fin 128), v (ix2 (⟨8 * i.val, by omega⟩ : Fin 80) c) = ((D i.castSucc c : ℝ) : EReal))
    (hD : ∀ c, D (Fin.last 10) c = 0) :
    k0_pay6 (F := Ideal) v = (((∑ i : Fin 10, ∑ c, |D i.castSucc c - D i.succ c|) / 8388608 : ℝ) : EReal) := by
  have hn : ∀ (i : Fin 10) (c : Fin 128), nexts (firsts v) (ix2 i c) = ((D i.succ c : ℝ) : EReal) := fun i c => by
    rcases Fin.eq_castSucc_or_eq_last i with ⟨j, rfl⟩ | rfl
    · rw [nexts_castSucc, firsts_apply]; exact hv j.succ c
    · rw [nexts_last, show (Fin.last 9).succ = Fin.last 10 from rfl, hD]; exact Ideal.ofBits_zero_f32
  have ht : total (absf (subf (firsts v) (nexts (firsts v)))) = ((∑ i : Fin 10, ∑ c, |D i.castSucc c - D i.succ c| : ℝ) : EReal) := by
    rw [total_apply, ← Calib.coe_sum]
    refine Finset.sum_congr rfl fun i _ => ?_
    rw [← Calib.coe_sum]
    refine Finset.sum_congr rfl fun c _ => ?_
    show FloatOps.absf (F := Ideal) (φ := .f32) (firsts v (ix2 i c) - nexts (firsts v) (ix2 i c)) = _
    rw [firsts_apply, hv, hn, ← EReal.coe_sub, Calib.coe_abs]
  rw [stored_eq, ht]
  show Ideal.div _ (Ideal.ofBits .f32 0x4B000000#32) = _
  rw [Calib.ofBits_count, Calib.coe_div _ (by norm_num)]

end Cert.KernelIdeal.Hist
-- ==== Proof.KernelValue.lean ====
/-
  What the kernel's result array holds after the run, for logits that are reals: the calibration error taken from the
  sums above the kernel's thresholds.
-/
module

public import proofs.«01_k».proof.Proof.Sum
public import proofs.«01_k».proof.Proof.Store
public import Idealize.ShloMosaic.Lib.Pipeline.Value

@[expose] public section

noncomputable section

namespace Cert.KernelIdeal.Hist

open Calib (thr tenthsBf16 above cumLoss hot prob)
open Cert.KernelIdeal Cert.KernelIdeal.Gen Idealize.ShloMosaic Idealize.ShloMosaic.TcCoe Idealize.SL.Sem
open Idealize.ShloMosaic.Pipeline (Dat)

section Run

variable {F : FTy → Type} [FloatOps F] (m : (ℓ : Loc nD τ sig) → Buf (Elt F) ℓ) (ρ : Dev nD → PrngReg) (c : Dev nD)

/-- The result array after the run: the scalar of the accumulator the last point leaves. -/
def result : Buf (Elt F) ((c : Thread nD τ).loc main_v1) := fun _ => k0_pay6 (outsAt0 m c t0_7.val t0_7.isLt).2

/-- The one write-back, after the last point, writes it. -/
theorem flushed_eq (t : Fin cfg0.N) (hf : (cfg0.win 2).flush t = true) :
    (dats m 0 c).flushed 2 t = ((cfg0.win 2).blk t).view.read (Elt F) (result m c) := by
  have h7 : t.val = 7 := by have := (flush0_2 t).mp hf; have := lt8 t; omega
  obtain rfl : t = t0_7 := Fin.ext h7
  have hz' : (fun a => win0_2.index t0_7 a * main_v1.ty.shape.size a) = fun _ => 0 := funext fun a => by fin_cases a <;> decide
  refine Eq.trans ?_ (Memref.read_access_unit_zero (Elt F) main_v1 hz' (fun a => by rw [congrFun hz' a]; simp) (result m c)).symm
  rw [Value.flushed2_C m c t0_7 (by decide) (by decide) (by decide), out_C]
  unfold result
  rw [outsAt0_C m c t0_7 (by decide) (by decide) (by decide)]
  rfl

/-- So the result array ends holding it. -/
theorem final_o : (dats m 0 c).arrAt 2 cfg0.N = result m c :=
  (dats m 0 c).arrAt_eq_of_cover 2 (result m c) (flushed_eq m c) fun i =>
    ⟨t0_7, (flush0_2 t0_7).mpr rfl, by
      show i ∈ ((View.whole main_v1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The run, read: the result array, and the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩) (Value.run_blocks m ρ)

end Run

/-- A row's term over the reals, for threshold `i`. -/
theorem rowTerm_coe (X : Fin 65536 → Fin 128 → ℝ) (T : Fin 65536 → BitVec 32) (i : Fin 10) (b : Fin 65536) (d : Fin 128) :
    rowTerm (thr i) (fun e => ((X b e : ℝ) : EReal)) (T b) d
      = ((if tenthsBf16 i.castSucc < prob X b d then hot T b d - prob X b d else 0 : ℝ) : EReal) := by
  by_cases hi : i = 0
  · subst hi
    rw [if_pos (show tenthsBf16 (Fin.castSucc 0) < prob X b d from Calib.prob_pos X b d), Calib.thr_zero]
    show Scalar.select _ (1 : EReal) 0 - _ = _
    rw [Calib.select_hot, Calib.kernelProb_coe, EReal.coe_sub]
  · obtain ⟨w, hw, hv⟩ := Calib.thr_value i hi
    rw [hw]
    show (if Ideal.ofBits .bf16 w < _ then Scalar.select _ (1 : EReal) 0 - _ else 0) = _
    rw [Calib.select_hot, Calib.kernelProb_coe, hv]
    by_cases h : tenthsBf16 i.castSucc < prob X b d
    · rw [if_pos h, if_pos (EReal.coe_lt_coe_iff.mpr h), EReal.coe_sub]
    · rw [if_neg h, if_neg (fun h' => h (EReal.coe_lt_coe_iff.mp h')), EReal.coe_zero]

/-- For logits that are reals the result is the calibration error from the sums above the thresholds. -/
theorem result_coe (m : (ℓ : Loc nD τ sig) → Buf (Elt Ideal) ℓ) (c : Dev nD) (X : Fin 65536 → Fin 128 → ℝ)
    (hX : ∀ b d, m ((c : Thread nD τ).loc main_arg0) (ix2 b d) = ((X b d : ℝ) : EReal)) :
    result m c = fun _ => ((cumLoss X (targets m c) tenthsBf16 : ℝ) : EReal) := by
  have hl : ∀ b, logits m c b = fun e => ((X b e : ℝ) : EReal) := fun b => funext fun e => hX b e
  have hacc : ∀ (i : Fin 10) (d : Fin 128), (outsAt0 m c t0_7.val t0_7.isLt).2 (ix2 (⟨8 * i.val, by omega⟩ : Fin 80) d)
      = ((above X (targets m c) (tenthsBf16 i.castSucc) d : ℝ) : EReal) := fun i d => by
    have hb : binOf (ix2 (⟨8 * i.val, by omega⟩ : Fin 80) d) = i := Fin.ext (by show 8 * i.val / 8 = i.val; omega)
    refine (acc_final m c _).trans ?_
    rw [hb]
    unfold above
    rw [← Calib.coe_sum]
    refine Finset.sum_congr rfl fun b _ => ?_
    show rowTerm (thr i) (logits m c b) (targets m c b) d = _
    rw [hl b]
    exact rowTerm_coe X (targets m c) i b d
  unfold result
  funext _
  exact stored_coe _ (fun i d => above X (targets m c) (tenthsBf16 i) d) hacc
    (fun d => by rw [Calib.tenthsBf16_last]; exact Calib.above_one X _ d)

end Cert.KernelIdeal.Hist
-- ==== Proof.RefShape.lean ====
/-
  What the references compute, written once for any list of bin edges: the columns of one bin, the table of ten bins, the
  loss of three tables; and that both generated references are this, each at its own edges.
-/
module

public import proofs.«01_k».proof.Proof.Gen.ReferenceIdeal.Read
public import proofs.«01_k».proof.Proof.Gen.ReferenceBf16EdgesIdeal.Read
public import proofs.«01_k».proof.Proof.Reals
public import Idealize.ShloMosaic.Lib.Pointwise
public import Idealize.ShloMosaic.Lib.Tactic

@[expose] public section

noncomputable section

namespace Cert.ReferenceIdeal.Hist

open Calib (edges edgesBf16)
open Cert.ReferenceIdeal Cert.ReferenceIdeal.Gen Idealize.ShloMosaic Idealize.ShloMosaic.TcCoe Idealize.SL.Sem

variable {F : FTy → Type} [FloatOps F]

/-- A constant of the shape of the logits. -/
abbrev splat (b : BitVec 32) : FVec F S65536x128 .f32 := broadcastInDim S65536x128 ![] bcast_S_S65536x128 (constant S_ .f32 b)

/-- One where the probability lies in the bin of edges `lo` and `hi`, else zero. -/
def mask (lo hi : BitVec 32) (p : FVec F S65536x128 .f32) : FVec F S65536x128 .f32 :=
  uitofp .f32 (andi (cmpf .ogt p (splat lo)) (cmpf .ole p (splat hi)))

/-- The sum of each class's column. -/
def colSum (x : FVec F S65536x128 .f32) : FVec F S128 .f32 :=
  Host.reduceAdd x (constant S_ .f32 0x00000000#32) reducesTo_S65536x128_S128_d0 h_S_

/-- Ten columns side by side. -/
def table (f : Fin 10 → FVec F S128 .f32) : FVec F S128x10 .f32 :=
  concatenate S128x10 1 (List.ofFn fun n : Fin 10 => (⟨S128x1, broadcastInDim S128x1 ![0] bcast_S128_S128x1_0 (f n)⟩ : (s : Shape) × (s.Idx → F .f32)))
    concatenates_S128x1_S128x1_S128x1_S128x1_S128x1_S128x1_S128x1_S128x1_S128x1_S128x1_S128x10_d1

/-- A table's averages: each entry over its count, or over one where the count is zero. -/
def mean (n a : FVec F S128x10 .f32) : FVec F S128x10 .f32 :=
  Host.divf a (maximumf n (broadcastInDim S128x10 ![] bcast_S_S128x10 (constant S_ .f32 0x3F800000#32)))

/-- The sum of a table. -/
def tableSum (x : FVec F S128x10 .f32) : FVec F S_ .f32 :=
  Host.reduceAdd x (constant S_ .f32 0x00000000#32) reducesTo_S128x10_S_d0_1 h_S_

/-- The loss of the tables of counts, hits and probabilities. -/
def loss (n a q : FVec F S128x10 .f32) : FVec F S1x1 .f32 :=
  shapeCast _ (tableSum (Host.divf (mulf (Host.absf (subf (mean n a) (mean n q))) n) (broadcastInDim S128x10 ![] bcast_S_S128x10 (tableSum n))))
    shapeCasts_S_S1x1

/-- The loss of the edges `e` from the probabilities and the one-hot targets. -/
def error (e : Fin 11 → BitVec 32) (p h : FVec F S65536x128 .f32) : FVec F S1x1 .f32 :=
  loss (table fun i => colSum (mask (e i.castSucc) (e i.succ) p))
    (table fun i => colSum (mulf (mask (e i.castSucc) (e i.succ) p) h))
    (table fun i => colSum (mulf (mask (e i.castSucc) (e i.succ) p) p))

set_option maxRecDepth 65536 in
/-- The reference is this function at the edges at tenths. -/
theorem reference_eq (x0 : FVec F S65536x128 .f32) (x1 : IVec S65536 32) :
    Read.val_main_v174 (F := F) x0 x1 = error edges (Read.val_main_v10 (F := F) x0) (Read.val_main_v17 (F := F) x1) := by
  sl_kernel_rfl

set_option maxRecDepth 65536 in
/-- The reference at the kernel's thresholds is this function at those edges, of the same probabilities. -/
theorem reference_bf16_edges_eq (x0 : FVec F S65536x128 .f32) (x1 : IVec S65536 32) :
    Cert.ReferenceBf16EdgesIdeal.Read.val_main_v174 (F := F) x0 x1
      = error edgesBf16 (Read.val_main_v10 (F := F) x0) (Read.val_main_v17 (F := F) x1) := by
  sl_kernel_rfl

end Cert.ReferenceIdeal.Hist

end
-- ==== Proof.RefValue.lean ====
/-
  What the references compute, for logits that are reals: the calibration error of their edges.
-/
module

public import proofs.«01_k».proof.Proof.RefShape
public import Idealize.ShloMosaic.Lib.Pointwise

@[expose] public section

noncomputable section

namespace Cert.ReferenceIdeal.Hist

open Calib (hostProb top prob hot ind cnt hits conf refLoss)
open Cert.ReferenceIdeal Cert.ReferenceIdeal.Gen Idealize.ShloMosaic Idealize.ShloMosaic.TcCoe Idealize.SL.Sem

/-- The reference's row maximum, broadcast. -/
theorem max_apply (x : (⟨S65536x128, .f32⟩ : BufTy).Contents (Elt Ideal)) (b : Fin 65536) (c : Fin 128) :
    Read.val_main_v4 (F := Ideal) x (ix2 b c) = max (Ideal.ofBits .f32 0xFF800000#32) (top (fun d => x (ix2 b d))) := by
  have e : Read.idx_main_v3 (Read.idx_main_v4 (ix2 b c)) = ix1 b := funext fun a => Fin.ext (by match a with | ⟨0, _⟩ => rfl)
  have h0 : Read.val_main_v0 (F := Ideal) x (ix1 b) = top (fun d => x (ix2 b d)) := by
    unfold top
    pointwise [Read.val_main_v0, Read.val_main_cst]
  rw [Read.val_main_v4_apply, Read.val_main_v3_apply, Read.val_main_v2_apply, Read.val_main_v1_apply, Read.val_main_cst_0_apply, e, h0]
  rfl

/-- The reference's exponentials. -/
theorem expo_apply (x : (⟨S65536x128, .f32⟩ : BufTy).Contents (Elt Ideal)) (b : Fin 65536) (c : Fin 128) :
    Read.val_main_v6 (F := Ideal) x (ix2 b c)
      = Ideal.exp (x (ix2 b c) - max (Ideal.ofBits .f32 0xFF800000#32) (top (fun d => x (ix2 b d)))) := by
  rw [← max_apply x b c, Read.val_main_v6_apply, Read.val_main_v5_apply]
  rfl

/-- The reference's row sums, broadcast. -/
theorem sum_apply (x : (⟨S65536x128, .f32⟩ : BufTy).Contents (Elt Ideal)) (b : Fin 65536) (c : Fin 128) :
    Read.val_main_v9 (F := Ideal) x (ix2 b c) = ∑ d : Fin 128, Read.val_main_v6 (F := Ideal) x (ix2 b d) := by
  have e : ∀ d : Fin 128, Read.idx_main_v7 (Read.idx_main_v8 (Read.idx_main_v9 (ix2 b c))) d = ix2 b d := fun d =>
    funext fun a => Fin.ext (by match a with | ⟨0, _⟩ => rfl | ⟨1, _⟩ => rfl)
  rw [Read.val_main_v9_apply, Read.val_main_v8_apply, Read.val_main_v7_apply, Read.val_main_cst_1_apply]
  simp only [e]
  exact (congrArg (· + _) Ideal.ofBits_zero_f32).trans (zero_add _)

/-- The reference's probability at an index. -/
theorem prob_apply (x : (⟨S65536x128, .f32⟩ : BufTy).Contents (Elt Ideal)) (b : Fin 65536) (c : Fin 128) :
    Read.val_main_v10 (F := Ideal) x (ix2 b c) = hostProb (fun d => x (ix2 b d)) c := by
  rw [Read.val_main_v10_apply, sum_apply, expo_apply]
  simp only [expo_apply]
  rfl

/-- The reference's one-hot targets at an index. -/
theorem hot_apply (x : (⟨S65536, .i32⟩ : BufTy).Contents (Elt Ideal)) (b : Fin 65536) (c : Fin 128) :
    Read.val_main_v17 (F := Ideal) x (ix2 b c) = FloatOps.uitofp (F := Ideal) .f32 (IntOp.cmpi .eq (x (ix1 b)) (BitVec.ofNat 32 c.val)) := by
  pointwise [Read.val_main_v11, Read.val_main_v12, Read.val_main_v13, Read.val_main_v14, Read.val_main_v15, Read.val_main_v16, Read.val_main_v17]

/-- A column's sum, for a column of reals. -/
theorem colSum_coe (x : FVec Ideal S65536x128 .f32) (f : Fin 65536 → Fin 128 → ℝ) (hx : ∀ b c, x (ix2 b c) = ((f b c : ℝ) : EReal)) (c : Fin 128) :
    colSum x (ix1 c) = ((∑ b, f b c : ℝ) : EReal) := by
  have h : colSum x (ix1 c) = ∑ b : Fin 65536, x (ix2 b c) := by pointwise [colSum]
  rw [h, ← Calib.coe_sum]
  exact Finset.sum_congr rfl fun b _ => hx b c

/-- A table at an index. -/
theorem table_apply (f : Fin 10 → FVec Ideal S128 .f32) (c : Fin 128) (i : Fin 10) : table f (ix2 c i) = f i (ix1 c) := by
  pointwise [table]

/-- The mask of a bin whose edges are the reals `lo` and `hi`. -/
theorem mask_coe (lo hi : BitVec 32) (l h : ℝ) (hl : Ideal.ofBits .f32 lo = ((l : ℝ) : EReal)) (hh : Ideal.ofBits .f32 hi = ((h : ℝ) : EReal))
    (p : FVec Ideal S65536x128 .f32) (P : Fin 65536 → Fin 128 → ℝ) (hp : ∀ b c, p (ix2 b c) = ((P b c : ℝ) : EReal)) (b : Fin 65536) (c : Fin 128) :
    mask lo hi p (ix2 b c) = ((ind l h (P b c) : ℝ) : EReal) := by
  have e : mask lo hi p (ix2 b c)
      = FloatOps.uitofp (F := Ideal) .f32 (IntOp.andi (BitVec.ofBool (decide (Ideal.ofBits .f32 lo < p (ix2 b c)))) (BitVec.ofBool (decide (p (ix2 b c) ≤ Ideal.ofBits .f32 hi)))) := by
    pointwise [mask]
  rw [e, hl, hh, hp, Calib.uitofp_ind]

/-- The loss of tables of reals, their counts not all zero. -/
theorem loss_coe (n a q : FVec Ideal S128x10 .f32) (N A Q : Fin 128 → Fin 10 → ℝ)
    (hn : ∀ c i, n (ix2 c i) = ((N c i : ℝ) : EReal)) (ha : ∀ c i, a (ix2 c i) = ((A c i : ℝ) : EReal)) (hq : ∀ c i, q (ix2 c i) = ((Q c i : ℝ) : EReal))
    (h0 : ∑ c, ∑ i, N c i ≠ 0) :
    loss n a q (ix2 0 0) = ((∑ c, ∑ i, |A c i / max (N c i) 1 - Q c i / max (N c i) 1| * N c i / ∑ c, ∑ i, N c i : ℝ) : EReal) := by
  have e : loss n a q (ix2 0 0) = ∑ x : Fin 128, ∑ y : Fin 10, Ideal.div (FloatOps.absf (F := Ideal) (φ := .f32) (Ideal.div (a (ix2 x y)) (max (n (ix2 x y)) 1)
      - Ideal.div (q (ix2 x y)) (max (n (ix2 x y)) 1)) * n (ix2 x y)) (∑ k : Fin 128, ∑ l : Fin 10, n (ix2 k l)) := by
    pointwise [loss, tableSum, mean]
  have hs : ∑ k : Fin 128, ∑ l : Fin 10, n (ix2 k l) = ((∑ c, ∑ i, N c i : ℝ) : EReal) := by
    simp only [hn, Calib.coe_sum]
  have hm : ∀ x y, max ((N x y : ℝ) : EReal) 1 = ((max (N x y) 1 : ℝ) : EReal) := fun x y =>
    (EReal.coe_strictMono.monotone.map_max (a := N x y) (b := 1)).symm
  have hm0 : ∀ x y, max (N x y) 1 ≠ 0 := fun x y => (lt_of_lt_of_le one_pos (le_max_right _ _)).ne'
  rw [e, hs]
  simp only [hn, ha, hq, hm, Calib.coe_div _ (hm0 _ _), ← EReal.coe_sub, Calib.coe_abs, ← EReal.coe_mul, Calib.coe_div _ h0, Calib.coe_sum]

/-- The loss of the edges `e`, for logits that are reals. -/
theorem error_coe (w : Fin 11 → BitVec 32) (e : Fin 11 → ℝ) (hw : ∀ i, Ideal.ofBits .f32 (w i) = ((e i : ℝ) : EReal))
    (he : Monotone e) (h0 : e 0 = 0) (h1 : e (Fin.last 10) = 1)
    (x0 : (⟨S65536x128, .f32⟩ : BufTy).Contents (Elt Ideal)) (x1 : (⟨S65536, .i32⟩ : BufTy).Contents (Elt Ideal))
    (X : Fin 65536 → Fin 128 → ℝ) (hX : ∀ b d, x0 (ix2 b d) = ((X b d : ℝ) : EReal)) :
    error (F := Ideal) w (Read.val_main_v10 (F := Ideal) x0) (Read.val_main_v17 (F := Ideal) x1)
      = (fun _ => ((refLoss X (fun b => x1 (ix1 b)) e : ℝ) : EReal) : FVec Ideal S1x1 .f32) := by
  have hp : ∀ b c, Read.val_main_v10 (F := Ideal) x0 (ix2 b c) = ((prob X b c : ℝ) : EReal) := fun b c => by
    rw [prob_apply, show (fun d => x0 (ix2 b d)) = fun d => ((X b d : ℝ) : EReal) from funext fun d => hX b d]
    exact Calib.hostProb_coe X b c
  have ht : ∀ b c, Read.val_main_v17 (F := Ideal) x1 (ix2 b c) = ((hot (fun b => x1 (ix1 b)) b c : ℝ) : EReal) := fun b c => by
    rw [hot_apply]
    exact Calib.uitofp_hot (fun b => x1 (ix1 b)) b c
  have hm : ∀ (i : Fin 10) b c, mask (F := Ideal) (w i.castSucc) (w i.succ) (Read.val_main_v10 (F := Ideal) x0) (ix2 b c)
      = ((ind (e i.castSucc) (e i.succ) (prob X b c) : ℝ) : EReal) := fun i b c => mask_coe _ _ _ _ (hw _) (hw _) _ _ hp b c
  funext y
  obtain rfl : y = (ix2 (0 : Fin 1) (0 : Fin 1) : S1x1.Idx) := funext fun a => Fin.ext (by
    have h0 : (y 0).val < 1 := (y 0).isLt
    have h1 : (y 1).val < 1 := (y 1).isLt
    match a with
    | ⟨0, _⟩ => show (y 0).val = 0; omega
    | ⟨1, _⟩ => show (y 1).val = 0; omega)
  refine loss_coe _ _ _ (cnt X e) (hits X (fun b => x1 (ix1 b)) e) (conf X e) (fun c i => ?_) (fun c i => ?_) (fun c i => ?_)
    (by rw [Calib.sum_cnt X e he h0 h1]; norm_num)
  · exact (table_apply _ c i).trans (colSum_coe _ _ (hm i) c)
  · refine (table_apply _ c i).trans (colSum_coe _ (fun b c => ind (e i.castSucc) (e i.succ) (prob X b c) * hot (fun b => x1 (ix1 b)) b c) (fun b c => ?_) c)
    rw [EReal.coe_mul, ← hm, ← ht]
    rfl
  · refine (table_apply _ c i).trans (colSum_coe _ (fun b c => ind (e i.castSucc) (e i.succ) (prob X b c) * prob X b c) (fun b c => ?_) c)
    rw [EReal.coe_mul, ← hm, ← hp]
    rfl

end Cert.ReferenceIdeal.Hist
-- ==== Proof.Pre.lean ====
/-
  What the preconditions say: every logit is a real number, and, of the second, no probability lies between a threshold
  of the kernel and the edge it stands for.
-/
module

public import proofs.«01_k».proof.Proof.Reals
public import proofs.«01_k».proof.Proof.Gen.Pre_finite
public import proofs.«01_k».proof.Proof.Gen.Pre_finite_clear_of_edges
public import Idealize.ShloMosaic.Lib.Pointwise
public import Idealize.ShloMosaic.Lib.ReduceAll
public import Idealize.ShloMosaic.Lib.Tactic

@[expose] public section

noncomputable section

namespace Calib

open Idealize.ShloMosaic Idealize.ShloMosaic.TcCoe Idealize.SL.Sem
open Cert.Pre_finite_clear_of_edges Cert.Pre_finite_clear_of_edges.Gen

section Shape

variable {F : FTy → Type} [FloatOps F]

/-- A constant of the shape of the logits. -/
abbrev splat (b : BitVec 32) : FVec F S65536x128 .f32 := broadcastInDim S65536x128 ![] bcast_S_S65536x128 (constant S_ .f32 b)

/-- One where the logit is finite. -/
def isFinite (x : FVec F S65536x128 .f32) : IVec S65536x128 1 := cmpf .olt (Host.absf x) (splat 0x7F800000#32)

/-- One where the probability is at most `lo` or above `hi`. -/
def apart (lo hi : BitVec 32) (p : FVec F S65536x128 .f32) : IVec S65536x128 1 := ori (cmpf .ole p (splat lo)) (cmpf .ogt p (splat hi))

/-- A vector of one value a row, at every class. -/
def spread (r : FVec F S65536 .f32) : FVec F S65536x128 .f32 :=
  broadcastInDim S65536x128 ![0, 1] bcast_S65536x1_S65536x128_0_1 (broadcastInDim S65536x1 ![0] bcast_S65536_S65536x1_0 r)

/-- The row maxima. -/
def rowTop (x : FVec F S65536x128 .f32) : FVec F S65536 .f32 :=
  Host.reduce FloatOps.maximumf x (constant S_ .f32 0xFF800000#32) reducesTo_S65536x128_S65536_d1 h_S_

/-- The row sums. -/
def rowSum (x : FVec F S65536x128 .f32) : FVec F S65536 .f32 :=
  Host.reduceAdd x (constant S_ .f32 0x00000000#32) reducesTo_S65536x128_S65536_d1 h_S_

/-- The exponentials of the logits less their row's maximum. -/
def expos (x : FVec F S65536x128 .f32) : FVec F S65536x128 .f32 := Host.exp (subf x (spread (rowTop x)))

/-- The probabilities. -/
def softmax (x : FVec F S65536x128 .f32) : FVec F S65536x128 .f32 := Host.divf (expos x) (spread (rowSum (expos x)))

/-- One where every element is one. -/
def everywhere (v : IVec S65536x128 1) : IVec S_ 1 := Host.reduce IntOp.andi v (constantI S_ 1 1#1) reducesTo_S65536x128_S_d0_1 h_S_

/-- The finiteness and the nine gaps, together. -/
def allClear (v : IVec S65536x128 1) (p : FVec F S65536x128 .f32) : IVec S65536x128 1 :=
  let g (i : Fin 11) := apart (edgesBf16 i) (edges i) p
  andi (andi (andi (andi (andi (andi (andi (andi (andi v (g 1)) (g 2)) (g 3)) (g 4)) (g 5)) (g 6)) (g 7)) (g 8)) (g 9)

theorem finite_eq (x0 : FVec F S65536x128 .f32) (x1 : IVec S65536 32) : Cert.Pre_finite.fn x0 x1 = everywhere (isFinite x0) := by
  sl_kernel_rfl

set_option maxRecDepth 65536 in
theorem clear_eq (x0 : FVec F S65536x128 .f32) (x1 : IVec S65536 32) :
    Cert.Pre_finite_clear_of_edges.fn x0 x1 = everywhere (allClear (isFinite x0) (softmax x0)) := by
  sl_kernel_rfl

theorem spread_apply (r : FVec F S65536 .f32) (b : Fin 65536) (c : Fin 128) : spread r (ix2 b c) = r (ix1 b) := by
  unfold spread
  refine (broadcastInDim_apply _ bcast_S65536x1_S65536x128_0_1 _ (ix2 b c) (ix2 b (0 : Fin 1) : S65536x1.Idx) fun a => ?_).trans
    (broadcastInDim_apply _ bcast_S65536_S65536x1_0 r (ix2 b (0 : Fin 1) : S65536x1.Idx) (ix1 b : S65536.Idx) fun a => ?_)
  · match a with
    | ⟨0, _⟩ => show b.val = if (65536 : Nat) = 1 then 0 else b.val; rw [if_neg (by decide)]
    | ⟨1, _⟩ => show 0 = if (1 : Nat) = 1 then 0 else c.val; rw [if_pos rfl]
  · match a with
    | ⟨0, _⟩ => show b.val = if (65536 : Nat) = 1 then 0 else b.val; rw [if_neg (by decide)]

instance : Subsingleton S_.Idx := ⟨fun a b => funext fun i => i.elim0⟩

/-- If the conjunction over all elements is one, every element is. -/
theorem of_everywhere (v : IVec S65536x128 1) (h : everywhere v = fun _ => 1#1) (i : S65536x128.Idx) : v i = 1#1 :=
  Host.reduce_andi_all v (constantI S_ 1 1#1) reducesTo_S65536x128_S_d0_1 h_S_ (fun a => a.elim0) (congrFun h _) i

theorem and_left {v w : IVec S65536x128 1} {i : S65536x128.Idx} (h : andi v w i = 1#1) : v i = 1#1 := (IntOp.andi_eq_one.1 h).1
theorem and_right {v w : IVec S65536x128 1} {i : S65536x128.Idx} (h : andi v w i = 1#1) : w i = 1#1 := (IntOp.andi_eq_one.1 h).2

/-- What the conjunction says at an index. -/
theorem of_allClear {v : IVec S65536x128 1} {p : FVec F S65536x128 .f32} {i : S65536x128.Idx} (h : allClear v p i = 1#1) :
    v i = 1#1 ∧ ∀ j : Fin 11, j ≠ 0 → j ≠ Fin.last 10 → apart (edgesBf16 j) (edges j) p i = 1#1 := by
  have h9 := h
  have h8 := and_left h9; have h7 := and_left h8; have h6 := and_left h7; have h5 := and_left h6
  have h4 := and_left h5; have h3 := and_left h4; have h2 := and_left h3; have h1 := and_left h2
  refine ⟨and_left h1, fun j hj hj' => ?_⟩
  fin_cases j
  · exact absurd rfl hj
  · exact and_right h1
  · exact and_right h2
  · exact and_right h3
  · exact and_right h4
  · exact and_right h5
  · exact and_right h6
  · exact and_right h7
  · exact and_right h8
  · exact and_right h9
  · exact absurd rfl hj'

end Shape

/-! ## Over the reals -/

theorem ofBits_inf : Ideal.ofBits .f32 0x7F800000#32 = ⊤ := by
  simp [Ideal.ofBits, Ideal.ieee]

/-- A finite extended real is a real. -/
theorem real_of_isFinite (x : FVec Ideal S65536x128 .f32) (i : S65536x128.Idx) (h : isFinite (F := Ideal) x i = 1#1) :
    x i = ((EReal.toReal (x i) : ℝ) : EReal) := by
  have e : isFinite (F := Ideal) x i = BitVec.ofBool (decide (max (x i) (-(x i)) < Ideal.ofBits .f32 0x7F800000#32)) := rfl
  rw [e, ofBits_inf] at h
  have hlt : max (x i) (-(x i)) < ⊤ := by
    by_contra hn
    rw [decide_eq_false hn] at h
    exact absurd h (by decide)
  obtain ⟨h1, h2⟩ := max_lt_iff.mp hlt
  refine (EReal.coe_toReal h1.ne fun hb => ?_).symm
  rw [hb, EReal.neg_bot] at h2
  exact lt_irrefl _ h2

theorem divf_apply (x y : FVec Ideal S65536x128 .f32) (i : S65536x128.Idx) : Host.divf x y i = Ideal.div (x i) (y i) := rfl

/-- The precondition's probability of a row of reals is softmax. -/
theorem softmax_coe (x : FVec Ideal S65536x128 .f32) (X : Fin 65536 → Fin 128 → ℝ) (hX : ∀ b d, x (ix2 b d) = ((X b d : ℝ) : EReal))
    (b : Fin 65536) (c : Fin 128) : softmax (F := Ideal) x (ix2 b c) = ((prob X b c : ℝ) : EReal) := by
  have htop : rowTop (F := Ideal) x (ix1 b) = ((rowMax X b : ℝ) : EReal) := by
    have e : rowTop (F := Ideal) x (ix1 b) = top (fun d => x (ix2 b d)) := by
      unfold top
      pointwise [rowTop]
    rw [e]
    simp only [hX]
    exact fold_max_coe (X b)
  have hexp : ∀ d, expos (F := Ideal) x (ix2 b d) = ((expo X b d : ℝ) : EReal) := fun d => by
    show Ideal.exp (x (ix2 b d) - spread (F := Ideal) (rowTop (F := Ideal) x) (ix2 b d)) = _
    rw [spread_apply, htop, hX, coe_expo]
  have hsum : rowSum (F := Ideal) (expos (F := Ideal) x) (ix1 b) = ((total X b : ℝ) : EReal) := by
    have e : ∀ y : FVec Ideal S65536x128 .f32, rowSum (F := Ideal) y (ix1 b) = ∑ d : Fin 128, y (ix2 b d) := fun y => by
      pointwise [rowSum]
    rw [e]
    simp only [hexp]
    exact coe_sum _ _
  unfold softmax
  rw [divf_apply, spread_apply, hsum, hexp, coe_div _ (total_pos X b).ne']
  rfl

/-- What the gap says of a real probability. -/
theorem of_apart (lo hi : BitVec 32) (l h q : ℝ) (hl : Ideal.ofBits .f32 lo = ((l : ℝ) : EReal)) (hh : Ideal.ofBits .f32 hi = ((h : ℝ) : EReal))
    (p : FVec Ideal S65536x128 .f32) (i : S65536x128.Idx) (hp : p i = ((q : ℝ) : EReal)) (ha : apart (F := Ideal) lo hi p i = 1#1) : q ≤ l ∨ h < q := by
  have e : apart (F := Ideal) lo hi p i
      = IntOp.ori (BitVec.ofBool (decide (p i ≤ Ideal.ofBits .f32 lo))) (BitVec.ofBool (decide (Ideal.ofBits .f32 hi < p i))) := rfl
  rw [e, hl, hh, hp] at ha
  by_contra hn
  rw [not_or] at hn
  rw [decide_eq_false (fun k => hn.1 (EReal.coe_le_coe_iff.mp k)), decide_eq_false (fun k => hn.2 (EReal.coe_lt_coe_iff.mp k))] at ha
  exact absurd ha (by decide)

/-- Each of the kernel's thresholds is at most its edge. -/
theorem tenthsBf16_le (j : Fin 11) : tenthsBf16 j ≤ tenths j := by
  fin_cases j <;> simp [tenths, tenthsBf16] <;> norm_num

/-- The first precondition: the logits are reals. -/
theorem reals_of_finite (x0 : FVec Ideal S65536x128 .f32) (x1 : IVec S65536 32) (h : Cert.Pre_finite.fn (F := Ideal) x0 x1 = fun _ => 1#1) :
    ∃ X : Fin 65536 → Fin 128 → ℝ, ∀ b d, x0 (ix2 b d) = ((X b d : ℝ) : EReal) := by
  rw [finite_eq] at h
  exact ⟨fun b d => EReal.toReal (x0 (ix2 b d)), fun b d => real_of_isFinite x0 _ (of_everywhere _ h _)⟩

/-- The second precondition: the logits are reals, and no probability tells a threshold of the kernel from its edge. -/
theorem reals_of_clear (x0 : FVec Ideal S65536x128 .f32) (x1 : IVec S65536 32) (h : Cert.Pre_finite_clear_of_edges.fn (F := Ideal) x0 x1 = fun _ => 1#1) :
    ∃ X : Fin 65536 → Fin 128 → ℝ, (∀ b d, x0 (ix2 b d) = ((X b d : ℝ) : EReal))
      ∧ ∀ j b c, tenthsBf16 j < prob X b c ↔ tenths j < prob X b c := by
  rw [clear_eq] at h
  have hX : ∀ b d, x0 (ix2 b d) = ((EReal.toReal (x0 (ix2 b d)) : ℝ) : EReal) := fun b d =>
    real_of_isFinite x0 _ (of_allClear (of_everywhere _ h _)).1
  refine ⟨fun b d => EReal.toReal (x0 (ix2 b d)), hX, fun j b c => ⟨fun hlt => ?_, fun hlt => lt_of_le_of_lt (tenthsBf16_le j) hlt⟩⟩
  by_cases h0 : j = 0
  · rw [h0, tenths_zero]; rw [h0, tenthsBf16_zero] at hlt; exact hlt
  by_cases h1 : j = Fin.last 10
  · rw [h1, tenths_last]; rw [h1, tenthsBf16_last] at hlt; exact hlt
  exact (of_apart _ _ _ _ _ (edgesBf16_value j) (edges_value j) _ _ (softmax_coe x0 _ hX b c)
    ((of_allClear (of_everywhere _ h (ix2 b c))).2 j h0 h1)).resolve_left (not_le.mpr hlt)

end Calib
-- ==== Proof.lean ====
/-
  The proof of `Cert.Claim` (proofs.«01_k».proof.Defs): the frames of the kernel, of its ideal program and of the two
  references; that the ideal program is the kernel over the extended reals; and the two value claims, that over the
  extended reals the kernel computes the calibration error, with the bin edges at its own thresholds for all finite
  logits (`algebraic_bf16_edges`), and with reference.py's edges where no probability lies between the two (`algebraic_edges`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceBf16EdgesIdeal
public import proofs.«01_k».proof.Proof.Gen.Pre_finite
public import proofs.«01_k».proof.Proof.Gen.Pre_finite_clear_of_edges
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceBf16EdgesIdeal.Run
public import proofs.«01_k».proof.Proof.Gen.ReferenceBf16EdgesIdeal.Read
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Calib

/-- The kernel's result for real logits is the calibration error of the bins at the kernel's thresholds. -/
theorem kernel_bf16_edges (m : (ℓ : Loc Cert.KernelIdeal.nD Cert.KernelIdeal.τ Cert.KernelIdeal.sig) → Buf (Elt Ideal) ℓ)
    (c : Dev Cert.KernelIdeal.nD) (X : Fin 65536 → Fin 128 → ℝ)
    (hX : ∀ b d, m ((c.tc : Thread Cert.KernelIdeal.nD Cert.KernelIdeal.τ).loc Cert.KernelIdeal.main_arg0) (ix2 b d) = ((X b d : ℝ) : EReal)) :
    Cert.KernelIdeal.Hist.result (F := Ideal) m c = fun _ => ((refLoss X (Cert.KernelIdeal.Hist.targets m c) tenthsBf16 : ℝ) : EReal) := by
  have h := cumLoss_eq X (Cert.KernelIdeal.Hist.targets m c) tenthsBf16 tenthsBf16_monotone tenthsBf16_zero tenthsBf16_last
  exact (Cert.KernelIdeal.Hist.result_coe m c X hX).trans (by rw [h])

/-- The kernel's result for real logits of which no probability lies between a threshold and its edge is the
    calibration error of the bins at the edges. -/
theorem kernel_edges (m : (ℓ : Loc Cert.KernelIdeal.nD Cert.KernelIdeal.τ Cert.KernelIdeal.sig) → Buf (Elt Ideal) ℓ)
    (c : Dev Cert.KernelIdeal.nD) (X : Fin 65536 → Fin 128 → ℝ)
    (hX : ∀ b d, m ((c.tc : Thread Cert.KernelIdeal.nD Cert.KernelIdeal.τ).loc Cert.KernelIdeal.main_arg0) (ix2 b d) = ((X b d : ℝ) : EReal))
    (hg : ∀ j b c, tenthsBf16 j < prob X b c ↔ tenths j < prob X b c) :
    Cert.KernelIdeal.Hist.result (F := Ideal) m c = fun _ => ((refLoss X (Cert.KernelIdeal.Hist.targets m c) tenths : ℝ) : EReal) := by
  have h := cumLoss_eq X (Cert.KernelIdeal.Hist.targets m c) tenths tenths_monotone tenths_zero tenths_last
  have h' := cumLoss_congr X (Cert.KernelIdeal.Hist.targets m c) tenthsBf16 tenths hg
  exact (Cert.KernelIdeal.Hist.result_coe m c X hX).trans (by rw [h', h])

/-- The frame of the reference with reference.py's edges. -/
theorem frame_edges : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- The frame of the reference with its edges at the kernel's thresholds. -/
theorem frame_bf16_edges : Cert.quiescent_ReferenceBf16EdgesIdeal := fun m ρ _ =>
  (θ_run Cert.ReferenceBf16EdgesIdeal.defs _ _).mono (fun r h => And.intro (fun c => (h c).2) (sem_eq_zero_of_no_sems (by decide) r.2))
    (Cert.ReferenceBf16EdgesIdeal.Value.run (F := Ideal) m ρ)

/-- For finite logits the kernel and the reference with its edges at the kernel's thresholds end with the same result. -/
theorem algebraic_bf16_edges : Cert.algebraic_KernelIdeal_ReferenceBf16EdgesIdeal_pre_finite := by
  intro m ρ m' ρ' hpre hagree
  refine ⟨fun c => Cert.KernelIdeal.Hist.result m c, Cert.KernelIdeal.Hist.run m ρ,
    (θ_run Cert.ReferenceBf16EdgesIdeal.defs _ _).mono (fun _ h c => ⟨(h c).1.trans ?_, (h c).2⟩) (Cert.ReferenceBf16EdgesIdeal.Value.run (F := Ideal) m' ρ')⟩
  obtain ⟨X, hX⟩ := reals_of_finite _ _ (hpre c)
  refine (Cert.ReferenceBf16EdgesIdeal.Read.val_main_v174_eq (StableHlo.launchContents m' c)).trans ?_
  rw [StableHlo.launchContents_devRef, StableHlo.launchContents_devRef, (hagree c).1, (hagree c).2,
    Cert.ReferenceIdeal.Hist.reference_bf16_edges_eq]
  refine Eq.trans ?_ (kernel_bf16_edges m c X hX).symm
  exact Cert.ReferenceIdeal.Hist.error_coe edgesBf16 tenthsBf16 edgesBf16_value tenthsBf16_monotone tenthsBf16_zero tenthsBf16_last _ _ X hX

/-- For finite logits of which no probability lies between a threshold of the kernel and its edge, the kernel and the
    reference with reference.py's edges end with the same result. -/
theorem algebraic_edges : Cert.algebraic_KernelIdeal_ReferenceIdeal_pre_finite_clear_of_edges := by
  intro m ρ m' ρ' hpre hagree
  refine ⟨fun c => Cert.KernelIdeal.Hist.result m c, Cert.KernelIdeal.Hist.run m ρ,
    (θ_run Cert.ReferenceIdeal.defs _ _).mono (fun _ h c => ⟨(h c).1.trans ?_, (h c).2⟩) (Cert.ReferenceIdeal.Value.run (F := Ideal) m' ρ')⟩
  obtain ⟨X, hX, hg⟩ := reals_of_clear _ _ (hpre c)
  refine (Cert.ReferenceIdeal.Read.val_main_v174_eq (StableHlo.launchContents m' c)).trans ?_
  rw [StableHlo.launchContents_devRef, StableHlo.launchContents_devRef, (hagree c).1, (hagree c).2,
    Cert.ReferenceIdeal.Hist.reference_eq]
  refine Eq.trans ?_ (kernel_edges m c X hX hg).symm
  exact Cert.ReferenceIdeal.Hist.error_coe edges tenths edges_value tenths_monotone tenths_zero tenths_last _ _ X hX

/-- The claim. -/
theorem claim : Cert.Claim := ⟨Cert.Kernel.Gen.facts, Cert.KernelIdeal.Gen.facts, Cert.ReferenceIdeal.Gen.facts,
  Cert.ReferenceBf16EdgesIdeal.Gen.facts, Cert.Pre_finite.Gen.facts, Cert.Pre_finite_clear_of_edges.Gen.facts,
  fun m ρ _ => Cert.Kernel.Gen.frame m ρ, fun m ρ _ => Cert.KernelIdeal.Gen.frame m ρ, fun m ρ _ => Cert.KernelIdeal.Gen.frame m ρ,
  fun m ρ _ => Cert.KernelIdeal.Gen.frame m ρ, frame_edges, fun m ρ _ => frame_edges m ρ trivial,
  frame_bf16_edges, fun m ρ _ => frame_bf16_edges m ρ trivial, trivial, algebraic_bf16_edges, algebraic_edges⟩

end Cert.Proof

end
